-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1000000 : Shape := ⟨1, ![1000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn {F : FTy → Type} [FloatOps F] (main_arg0 : IVec S1000000 32) (main_arg1 : IVec S_ 32) : IVec S_ 1 :=
  let main_c : IVec S_ 32 := constantI S_ 32 0#32
  let main_v0 : IVec S1000000 32 := broadcastInDim S1000000 ![] bcast_S_S1000000 main_c
  let main_v1 : IVec S1000000 1 := cmpi .sge main_arg0 main_v0
  let main_v2 : IVec S1000000 32 := broadcastInDim S1000000 ![] bcast_S_S1000000 main_arg1
  let main_v3 : IVec S1000000 1 := cmpi .slt main_arg0 main_v2
  let main_v4 : IVec S1000000 1 := andi main_v1 main_v3
  let main_c_0 : IVec S_ 1 := constantI S_ 1 1#1
  let main_v5 : IVec S_ 1 := (fun x v => Host.reduce IntOp.andi x v reducesTo_S1000000_S_d0 h_S_) main_v4 main_c_0
  let main_c_1 : IVec S_ 32 := constantI S_ 32 2#32
  let main_v6 : IVec S_ 1 := cmpi .sge main_arg1 main_c_1
  let main_v7 : IVec S_ 1 := andi main_v5 main_v6
  main_v7
-- ==== Kernel.lean ====
abbrev S1000000 : Shape := ⟨1, ![1000000]⟩
abbrev S_ : Shape := ⟨0, ![]⟩
abbrev S16 : Shape := ⟨1, ![16]⟩
abbrev S4x1000000 : Shape := ⟨2, ![4, 1000000]⟩
abbrev S31304 : Shape := ⟨1, ![31304]⟩
abbrev S4x10440 : Shape := ⟨2, ![4, 10440]⟩
abbrev S31296 : Shape := ⟨1, ![31296]⟩
abbrev S29832 : Shape := ⟨1, ![29832]⟩
abbrev S1x16 : Shape := ⟨2, ![1, 16]⟩
abbrev S1x10432 : Shape := ⟨2, ![1, 10432]⟩
abbrev S10432 : Shape := ⟨1, ![10432]⟩
abbrev S1x8960 : Shape := ⟨2, ![1, 8960]⟩
abbrev S8960 : Shape := ⟨1, ![8960]⟩
abbrev S1000000x4 : Shape := ⟨2, ![1000000, 4]⟩

abbrev nBuf : Table → Nat
  | .hbm => 7
  | .local .scVector .vmem => 4
  | _ => 0

abbrev bufTy : (tb : Table) → Fin (nBuf tb) → BufTy
  | .hbm, ⟨0, _⟩ => ⟨S1000000, .i32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S16, .i32⟩
  | .hbm, ⟨5, _⟩ => ⟨S4x1000000, .i32⟩
  | .hbm, ⟨6, _⟩ => ⟨S1000000x4, .i32⟩
  | .local .scVector .vmem, ⟨0, _⟩ => ⟨S31304, .i32⟩
  | .local .scVector .vmem, ⟨1, _⟩ => ⟨S16, .i32⟩
  | .local .scVector .vmem, ⟨2, _⟩ => ⟨S4x10440, .i32⟩
  | .local .scVector .vmem, ⟨3, _⟩ => ⟨S4x10440, .i32⟩
  | _, _ => ⟨S1000000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let v9 : BitVec 1 := Scalar.cmpi .ne v1 c0_i32_2
  let c31_i32 : BitVec 32 := 31#32
  let v10 : BitVec 1 := Scalar.cmpi .ne v1 c31_i32
  let v11 : BitVec 1 := Scalar.andi v9 v10
  let v12 : BitVec 32 := Scalar.extui v11
  let c0_i32_3 : BitVec 32 := 0#32
  let v13 : BitVec 1 := Scalar.cmpi .ne v12 c0_i32_3
  v13

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c8_i32 : BitVec 32 := 8#32
  let v167 : BitVec 32 := Scalar.subi v5 c8_i32
  ![v167.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_4 : BitVec 32 := 31#32
  let v14 : BitVec 1 := Scalar.cmpi .eq v1 c31_i32_4
  let v15 : BitVec 32 := Scalar.extui v14
  let c0_i32_5 : BitVec 32 := 0#32
  let v16 : BitVec 1 := Scalar.cmpi .ne v15 c0_i32_5
  v16

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c8_i32 : BitVec 32 := 8#32
  let v167 : BitVec 32 := Scalar.subi v5 c8_i32
  ![v167.toNat]
@[reducible] def k0_t1_loop : Scf.Loop 32 :=
  let c0_i32_6 : BitVec 32 := 0#32
  let c652_i32 : BitVec 32 := 652#32
  let v17 : BitVec 32 := Scalar.addi c0_i32_6 c652_i32
  let c1_i32_7 : BitVec 32 := 1#32
  ⟨c0_i32_6, v17, c1_i32_7⟩
def k0_off3 (k0_t1 : Fin k0_t1_loop.trips) (c8_i32 : BitVec 32) : Fin 1 → Nat :=
  let c0_i32_91 : BitVec 32 := 0#32
  let c0_i32_6 : BitVec 32 := 0#32
  let c1_i32_7 : BitVec 32 := 1#32
  let arg12 : BitVec 32 := Scf.iv c0_i32_6 c1_i32_7 k0_t1
  let c1_i32_90 : BitVec 32 := 1#32
  let v167 : BitVec 32 := Scalar.muli arg12 c1_i32_90
  let v168 : BitVec 32 := Scalar.addi c0_i32_91 v167
  let c16_i32 : BitVec 32 := 16#32
  let v169 : BitVec 32 := Scalar.muli v168 c16_i32
  let v170 : BitVec 32 := Scalar.addi c8_i32 v169
  let v171 : Index := Scalar.indexCast v170
  ![v171.toNat]
def k0_off4 (k0_t1 : Fin k0_t1_loop.trips) : Fin 2 → Nat :=
  let c0_i32_92 : BitVec 32 := 0#32
  let v184 : Index := Scalar.indexCast c0_i32_92
  let c0_i32_91 : BitVec 32 := 0#32
  let c0_i32_6 : BitVec 32 := 0#32
  let c1_i32_7 : BitVec 32 := 1#32
  let arg12 : BitVec 32 := Scf.iv c0_i32_6 c1_i32_7 k0_t1
  let c1_i32_90 : BitVec 32 := 1#32
  let v167 : BitVec 32 := Scalar.muli arg12 c1_i32_90
  let v168 : BitVec 32 := Scalar.addi c0_i32_91 v167
  let c16_i32 : BitVec 32 := 16#32
  let v169 : BitVec 32 := Scalar.muli v168 c16_i32
  let v185 : Index := Scalar.indexCast v169
  ![0, v185.toNat]
def k0_off5 (k0_t1 : Fin k0_t1_loop.trips) : Fin 2 → Nat :=
  let c1_i32_93 : BitVec 32 := 1#32
  let v187 : Index := Scalar.indexCast c1_i32_93
  let c0_i32_91 : BitVec 32 := 0#32
  let c0_i32_6 : BitVec 32 := 0#32
  let c1_i32_7 : BitVec 32 := 1#32
  let arg12 : BitVec 32 := Scf.iv c0_i32_6 c1_i32_7 k0_t1
  let c1_i32_90 : BitVec 32 := 1#32
  let v167 : BitVec 32 := Scalar.muli arg12 c1_i32_90
  let v168 : BitVec 32 := Scalar.addi c0_i32_91 v167
  let c16_i32 : BitVec 32 := 16#32
  let v169 : BitVec 32 := Scalar.muli v168 c16_i32
  let v188 : Index := Scalar.indexCast v169
  ![1, v188.toNat]
def k0_off6 (k0_t1 : Fin k0_t1_loop.trips) : Fin 2 → Nat :=
  let c2_i32_94 : BitVec 32 := 2#32
  let v190 : Index := Scalar.indexCast c2_i32_94
  let c0_i32_91 : BitVec 32 := 0#32
  let c0_i32_6 : BitVec 32 := 0#32
  let c1_i32_7 : BitVec 32 := 1#32
  let arg12 : BitVec 32 := Scf.iv c0_i32_6 c1_i32_7 k0_t1
  let c1_i32_90 : BitVec 32 := 1#32
  let v167 : BitVec 32 := Scalar.muli arg12 c1_i32_90
  let v168 : BitVec 32 := Scalar.addi c0_i32_91 v167
  let c16_i32 : BitVec 32 := 16#32
  let v169 : BitVec 32 := Scalar.muli v168 c16_i32
  let v191 : Index := Scalar.indexCast v169
  ![2, v191.toNat]
def k0_off7 (k0_t1 : Fin k0_t1_loop.trips) : Fin 2 → Nat :=
  let c3_i32_95 : BitVec 32 := 3#32
  let v193 : Index := Scalar.indexCast c3_i32_95
  let c0_i32_91 : BitVec 32 := 0#32
  let c0_i32_6 : BitVec 32 := 0#32
  let c1_i32_7 : BitVec 32 := 1#32
  let arg12 : BitVec 32 := Scf.iv c0_i32_6 c1_i32_7 k0_t1
  let c1_i32_90 : BitVec 32 := 1#32
  let v167 : BitVec 32 := Scalar.muli arg12 c1_i32_90
  let v168 : BitVec 32 := Scalar.addi c0_i32_91 v167
  let c16_i32 : BitVec 32 := 16#32
  let v169 : BitVec 32 := Scalar.muli v168 c16_i32
  let v194 : Index := Scalar.indexCast v169
  ![3, v194.toNat]
def k0_off8 (i : grid0.Coords) (c0_i32_9 : BitVec 32) : Fin 2 → Nat :=
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let v18 : BitVec 32 := Scalar.addi v5 c0_i32_9
  ![0, v18.toNat]
def k0_off9 (i : grid0.Coords) (c0_i32_9 : BitVec 32) : Fin 2 → Nat :=
  let c1_i32_15 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let v18 : BitVec 32 := Scalar.addi v5 c0_i32_9
  ![1, v18.toNat]
def k0_off10 (i : grid0.Coords) (c0_i32_9 : BitVec 32) : Fin 2 → Nat :=
  let c2_i32_19 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let v18 : BitVec 32 := Scalar.addi v5 c0_i32_9
  ![2, v18.toNat]
def k0_off11 (i : grid0.Coords) (c0_i32_9 : BitVec 32) : Fin 2 → Nat :=
  let c3_i32_22 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let v18 : BitVec 32 := Scalar.addi v5 c0_i32_9
  ![3, v18.toNat]
@[reducible] def k0_t2_loop : Scf.Loop 32 :=
  let c0_i32_25 : BitVec 32 := 0#32
  let c652_i32_26 : BitVec 32 := 652#32
  let v51 : BitVec 32 := Scalar.addi c0_i32_25 c652_i32_26
  let c1_i32_27 : BitVec 32 := 1#32
  ⟨c0_i32_25, v51, c1_i32_27⟩
def k0_off12 (k0_t2 : Fin k0_t2_loop.trips) (c10440_i32 : BitVec 32) : Fin 1 → Nat :=
  let c0_i32_91 : BitVec 32 := 0#32
  let c0_i32_25 : BitVec 32 := 0#32
  let c1_i32_27 : BitVec 32 := 1#32
  let arg12 : BitVec 32 := Scf.iv c0_i32_25 c1_i32_27 k0_t2
  let c1_i32_90 : BitVec 32 := 1#32
  let v167 : BitVec 32 := Scalar.muli arg12 c1_i32_90
  let v168 : BitVec 32 := Scalar.addi c0_i32_91 v167
  let c16_i32 : BitVec 32 := 16#32
  let v169 : BitVec 32 := Scalar.muli v168 c16_i32
  let v170 : BitVec 32 := Scalar.addi c10440_i32 v169
  let v171 : Index := Scalar.indexCast v170
  ![v171.toNat]
def k0_off13 (k0_t2 : Fin k0_t2_loop.trips) : Fin 2 → Nat :=
  let c0_i32_92 : BitVec 32 := 0#32
  let v184 : Index := Scalar.indexCast c0_i32_92
  let c0_i32_91 : BitVec 32 := 0#32
  let c0_i32_25 : BitVec 32 := 0#32
  let c1_i32_27 : BitVec 32 := 1#32
  let arg12 : BitVec 32 := Scf.iv c0_i32_25 c1_i32_27 k0_t2
  let c1_i32_90 : BitVec 32 := 1#32
  let v167 : BitVec 32 := Scalar.muli arg12 c1_i32_90
  let v168 : BitVec 32 := Scalar.addi c0_i32_91 v167
  let c16_i32 : BitVec 32 := 16#32
  let v169 : BitVec 32 := Scalar.muli v168 c16_i32
  let v185 : Index := Scalar.indexCast v169
  ![0, v185.toNat]
def k0_off14 (k0_t2 : Fin k0_t2_loop.trips) : Fin 2 → Nat :=
  let c1_i32_93 : BitVec 32 := 1#32
  let v187 : Index := Scalar.indexCast c1_i32_93
  let c0_i32_91 : BitVec 32 := 0#32
  let c0_i32_25 : BitVec 32 := 0#32
  let c1_i32_27 : BitVec 32 := 1#32
  let arg12 : BitVec 32 := Scf.iv c0_i32_25 c1_i32_27 k0_t2
  let c1_i32_90 : BitVec 32 := 1#32
  let v167 : BitVec 32 := Scalar.muli arg12 c1_i32_90
  let v168 : BitVec 32 := Scalar.addi c0_i32_91 v167
  let c16_i32 : BitVec 32 := 16#32
  let v169 : BitVec 32 := Scalar.muli v168 c16_i32
  let v188 : Index := Scalar.indexCast v169
  ![1, v188.toNat]
def k0_off15 (k0_t2 : Fin k0_t2_loop.trips) : Fin 2 → Nat :=
  let c2_i32_94 : BitVec 32 := 2#32
  let v190 : Index := Scalar.indexCast c2_i32_94
  let c0_i32_91 : BitVec 32 := 0#32
  let c0_i32_25 : BitVec 32 := 0#32
  let c1_i32_27 : BitVec 32 := 1#32
  let arg12 : BitVec 32 := Scf.iv c0_i32_25 c1_i32_27 k0_t2
  let c1_i32_90 : BitVec 32 := 1#32
  let v167 : BitVec 32 := Scalar.muli arg12 c1_i32_90
  let v168 : BitVec 32 := Scalar.addi c0_i32_91 v167
  let c16_i32 : BitVec 32 := 16#32
  let v169 : BitVec 32 := Scalar.muli v168 c16_i32
  let v191 : Index := Scalar.indexCast v169
  ![2, v191.toNat]
def k0_off16 (k0_t2 : Fin k0_t2_loop.trips) : Fin 2 → Nat :=
  let c3_i32_95 : BitVec 32 := 3#32
  let v193 : Index := Scalar.indexCast c3_i32_95
  let c0_i32_91 : BitVec 32 := 0#32
  let c0_i32_25 : BitVec 32 := 0#32
  let c1_i32_27 : BitVec 32 := 1#32
  let arg12 : BitVec 32 := Scf.iv c0_i32_25 c1_i32_27 k0_t2
  let c1_i32_90 : BitVec 32 := 1#32
  let v167 : BitVec 32 := Scalar.muli arg12 c1_i32_90
  let v168 : BitVec 32 := Scalar.addi c0_i32_91 v167
  let c16_i32 : BitVec 32 := 16#32
  let v169 : BitVec 32 := Scalar.muli v168 c16_i32
  let v194 : Index := Scalar.indexCast v169
  ![3, v194.toNat]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_62 : BitVec 32 := 3#32
  let v118 : BitVec 32 := Scalar.muli v1 c3_i32_62
  let c2_i32_63 : BitVec 32 := 2#32
  let v119 : BitVec 32 := Scalar.addi v118 c2_i32_63
  let c95_i32 : BitVec 32 := 95#32
  let v120 : BitVec 1 := Scalar.cmpi .eq v119 c95_i32
  let v121 : BitVec 32 := Scalar.extui v120
  let c0_i32_64 : BitVec 32 := 0#32
  let v122 : BitVec 1 := Scalar.cmpi .ne v121 c0_i32_64
  v122

@[reducible] def k0_t3_loop : Scf.Loop 32 :=
  let c0_i32_90 : BitVec 32 := 0#32
  let c560_i32 : BitVec 32 := 560#32
  let v167 : BitVec 32 := Scalar.addi c0_i32_90 c560_i32
  let c1_i32_91 : BitVec 32 := 1#32
  ⟨c0_i32_90, v167, c1_i32_91⟩
def k0_off17 (k0_t3 : Fin k0_t3_loop.trips) (c20872_i32 : BitVec 32) : Fin 1 → Nat :=
  let c0_i32_110 : BitVec 32 := 0#32
  let c0_i32_90 : BitVec 32 := 0#32
  let c1_i32_91 : BitVec 32 := 1#32
  let arg12 : BitVec 32 := Scf.iv c0_i32_90 c1_i32_91 k0_t3
  let c1_i32_109 : BitVec 32 := 1#32
  let v201 : BitVec 32 := Scalar.muli arg12 c1_i32_109
  let v202 : BitVec 32 := Scalar.addi c0_i32_110 v201
  let c16_i32 : BitVec 32 := 16#32
  let v203 : BitVec 32 := Scalar.muli v202 c16_i32
  let v204 : BitVec 32 := Scalar.addi c20872_i32 v203
  let v205 : Index := Scalar.indexCast v204
  ![v205.toNat]
def k0_off18 (k0_t3 : Fin k0_t3_loop.trips) : Fin 2 → Nat :=
  let c0_i32_111 : BitVec 32 := 0#32
  let v218 : Index := Scalar.indexCast c0_i32_111
  let c0_i32_110 : BitVec 32 := 0#32
  let c0_i32_90 : BitVec 32 := 0#32
  let c1_i32_91 : BitVec 32 := 1#32
  let arg12 : BitVec 32 := Scf.iv c0_i32_90 c1_i32_91 k0_t3
  let c1_i32_109 : BitVec 32 := 1#32
  let v201 : BitVec 32 := Scalar.muli arg12 c1_i32_109
  let v202 : BitVec 32 := Scalar.addi c0_i32_110 v201
  let c16_i32 : BitVec 32 := 16#32
  let v203 : BitVec 32 := Scalar.muli v202 c16_i32
  let v219 : Index := Scalar.indexCast v203
  ![0, v219.toNat]
def k0_off19 (k0_t3 : Fin k0_t3_loop.trips) : Fin 2 → Nat :=
  let c1_i32_112 : BitVec 32 := 1#32
  let v221 : Index := Scalar.indexCast c1_i32_112
  let c0_i32_110 : BitVec 32 := 0#32
  let c0_i32_90 : BitVec 32 := 0#32
  let c1_i32_91 : BitVec 32 := 1#32
  let arg12 : BitVec 32 := Scf.iv c0_i32_90 c1_i32_91 k0_t3
  let c1_i32_109 : BitVec 32 := 1#32
  let v201 : BitVec 32 := Scalar.muli arg12 c1_i32_109
  let v202 : BitVec 32 := Scalar.addi c0_i32_110 v201
  let c16_i32 : BitVec 32 := 16#32
  let v203 : BitVec 32 := Scalar.muli v202 c16_i32
  let v222 : Index := Scalar.indexCast v203
  ![1, v222.toNat]
def k0_off20 (k0_t3 : Fin k0_t3_loop.trips) : Fin 2 → Nat :=
  let c2_i32_113 : BitVec 32 := 2#32
  let v224 : Index := Scalar.indexCast c2_i32_113
  let c0_i32_110 : BitVec 32 := 0#32
  let c0_i32_90 : BitVec 32 := 0#32
  let c1_i32_91 : BitVec 32 := 1#32
  let arg12 : BitVec 32 := Scf.iv c0_i32_90 c1_i32_91 k0_t3
  let c1_i32_109 : BitVec 32 := 1#32
  let v201 : BitVec 32 := Scalar.muli arg12 c1_i32_109
  let v202 : BitVec 32 := Scalar.addi c0_i32_110 v201
  let c16_i32 : BitVec 32 := 16#32
  let v203 : BitVec 32 := Scalar.muli v202 c16_i32
  let v225 : Index := Scalar.indexCast v203
  ![2, v225.toNat]
def k0_off21 (k0_t3 : Fin k0_t3_loop.trips) : Fin 2 → Nat :=
  let c3_i32_114 : BitVec 32 := 3#32
  let v227 : Index := Scalar.indexCast c3_i32_114
  let c0_i32_110 : BitVec 32 := 0#32
  let c0_i32_90 : BitVec 32 := 0#32
  let c1_i32_91 : BitVec 32 := 1#32
  let arg12 : BitVec 32 := Scf.iv c0_i32_90 c1_i32_91 k0_t3
  let c1_i32_109 : BitVec 32 := 1#32
  let v201 : BitVec 32 := Scalar.muli arg12 c1_i32_109
  let v202 : BitVec 32 := Scalar.addi c0_i32_110 v201
  let c16_i32 : BitVec 32 := 16#32
  let v203 : BitVec 32 := Scalar.muli v202 c16_i32
  let v228 : Index := Scalar.indexCast v203
  ![3, v228.toNat]
def k0_off22 (i : grid0.Coords) : Fin 2 → Nat :=
  let c0_i32_94 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v168 : BitVec 32 := Scalar.addi v5 c20864_i32
  ![0, v168.toNat]
def k0_off23 (i : grid0.Coords) : Fin 2 → Nat :=
  let c1_i32_98 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v168 : BitVec 32 := Scalar.addi v5 c20864_i32
  ![1, v168.toNat]
def k0_off24 (i : grid0.Coords) : Fin 2 → Nat :=
  let c2_i32_102 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v168 : BitVec 32 := Scalar.addi v5 c20864_i32
  ![2, v168.toNat]
def k0_off25 (i : grid0.Coords) : Fin 2 → Nat :=
  let c3_i32_106 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v168 : BitVec 32 := Scalar.addi v5 c20864_i32
  ![3, v168.toNat]
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_62 : BitVec 32 := 3#32
  let v118 : BitVec 32 := Scalar.muli v1 c3_i32_62
  let c2_i32_63 : BitVec 32 := 2#32
  let v119 : BitVec 32 := Scalar.addi v118 c2_i32_63
  let c95_i32_65 : BitVec 32 := 95#32
  let v123 : BitVec 1 := Scalar.cmpi .ne v119 c95_i32_65
  let v124 : BitVec 32 := Scalar.extui v123
  let c0_i32_66 : BitVec 32 := 0#32
  let v125 : BitVec 1 := Scalar.cmpi .ne v124 c0_i32_66
  v125

@[reducible] def k0_t4_loop : Scf.Loop 32 :=
  let c0_i32_90 : BitVec 32 := 0#32
  let c652_i32_91 : BitVec 32 := 652#32
  let v167 : BitVec 32 := Scalar.addi c0_i32_90 c652_i32_91
  let c1_i32_92 : BitVec 32 := 1#32
  ⟨c0_i32_90, v167, c1_i32_92⟩
def k0_off26 (k0_t4 : Fin k0_t4_loop.trips) (c20872_i32 : BitVec 32) : Fin 1 → Nat :=
  let c0_i32_111 : BitVec 32 := 0#32
  let c0_i32_90 : BitVec 32 := 0#32
  let c1_i32_92 : BitVec 32 := 1#32
  let arg12 : BitVec 32 := Scf.iv c0_i32_90 c1_i32_92 k0_t4
  let c1_i32_110 : BitVec 32 := 1#32
  let v201 : BitVec 32 := Scalar.muli arg12 c1_i32_110
  let v202 : BitVec 32 := Scalar.addi c0_i32_111 v201
  let c16_i32 : BitVec 32 := 16#32
  let v203 : BitVec 32 := Scalar.muli v202 c16_i32
  let v204 : BitVec 32 := Scalar.addi c20872_i32 v203
  let v205 : Index := Scalar.indexCast v204
  ![v205.toNat]
def k0_off27 (k0_t4 : Fin k0_t4_loop.trips) : Fin 2 → Nat :=
  let c0_i32_112 : BitVec 32 := 0#32
  let v218 : Index := Scalar.indexCast c0_i32_112
  let c0_i32_111 : BitVec 32 := 0#32
  let c0_i32_90 : BitVec 32 := 0#32
  let c1_i32_92 : BitVec 32 := 1#32
  let arg12 : BitVec 32 := Scf.iv c0_i32_90 c1_i32_92 k0_t4
  let c1_i32_110 : BitVec 32 := 1#32
  let v201 : BitVec 32 := Scalar.muli arg12 c1_i32_110
  let v202 : BitVec 32 := Scalar.addi c0_i32_111 v201
  let c16_i32 : BitVec 32 := 16#32
  let v203 : BitVec 32 := Scalar.muli v202 c16_i32
  let v219 : Index := Scalar.indexCast v203
  ![0, v219.toNat]
def k0_off28 (k0_t4 : Fin k0_t4_loop.trips) : Fin 2 → Nat :=
  let c1_i32_113 : BitVec 32 := 1#32
  let v221 : Index := Scalar.indexCast c1_i32_113
  let c0_i32_111 : BitVec 32 := 0#32
  let c0_i32_90 : BitVec 32 := 0#32
  let c1_i32_92 : BitVec 32 := 1#32
  let arg12 : BitVec 32 := Scf.iv c0_i32_90 c1_i32_92 k0_t4
  let c1_i32_110 : BitVec 32 := 1#32
  let v201 : BitVec 32 := Scalar.muli arg12 c1_i32_110
  let v202 : BitVec 32 := Scalar.addi c0_i32_111 v201
  let c16_i32 : BitVec 32 := 16#32
  let v203 : BitVec 32 := Scalar.muli v202 c16_i32
  let v222 : Index := Scalar.indexCast v203
  ![1, v222.toNat]
def k0_off29 (k0_t4 : Fin k0_t4_loop.trips) : Fin 2 → Nat :=
  let c2_i32_114 : BitVec 32 := 2#32
  let v224 : Index := Scalar.indexCast c2_i32_114
  let c0_i32_111 : BitVec 32 := 0#32
  let c0_i32_90 : BitVec 32 := 0#32
  let c1_i32_92 : BitVec 32 := 1#32
  let arg12 : BitVec 32 := Scf.iv c0_i32_90 c1_i32_92 k0_t4
  let c1_i32_110 : BitVec 32 := 1#32
  let v201 : BitVec 32 := Scalar.muli arg12 c1_i32_110
  let v202 : BitVec 32 := Scalar.addi c0_i32_111 v201
  let c16_i32 : BitVec 32 := 16#32
  let v203 : BitVec 32 := Scalar.muli v202 c16_i32
  let v225 : Index := Scalar.indexCast v203
  ![2, v225.toNat]
def k0_off30 (k0_t4 : Fin k0_t4_loop.trips) : Fin 2 → Nat :=
  let c3_i32_115 : BitVec 32 := 3#32
  let v227 : Index := Scalar.indexCast c3_i32_115
  let c0_i32_111 : BitVec 32 := 0#32
  let c0_i32_90 : BitVec 32 := 0#32
  let c1_i32_92 : BitVec 32 := 1#32
  let arg12 : BitVec 32 := Scf.iv c0_i32_90 c1_i32_92 k0_t4
  let c1_i32_110 : BitVec 32 := 1#32
  let v201 : BitVec 32 := Scalar.muli arg12 c1_i32_110
  let v202 : BitVec 32 := Scalar.addi c0_i32_111 v201
  let c16_i32 : BitVec 32 := 16#32
  let v203 : BitVec 32 := Scalar.muli v202 c16_i32
  let v228 : Index := Scalar.indexCast v203
  ![3, v228.toNat]
def k0_off31 (i : grid0.Coords) : Fin 2 → Nat :=
  let c0_i32_95 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v168 : BitVec 32 := Scalar.addi v5 c20864_i32
  ![0, v168.toNat]
def k0_off32 (i : grid0.Coords) : Fin 2 → Nat :=
  let c1_i32_99 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v168 : BitVec 32 := Scalar.addi v5 c20864_i32
  ![1, v168.toNat]
def k0_off33 (i : grid0.Coords) : Fin 2 → Nat :=
  let c2_i32_103 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v168 : BitVec 32 := Scalar.addi v5 c20864_i32
  ![2, v168.toNat]
def k0_off34 (i : grid0.Coords) : Fin 2 → Nat :=
  let c3_i32_107 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v168 : BitVec 32 := Scalar.addi v5 c20864_i32
  ![3, v168.toNat]
def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_84 : BitVec 32 := 3#32
  let v159 : BitVec 32 := Scalar.muli v1 c3_i32_84
  let c2_i32_85 : BitVec 32 := 2#32
  let v160 : BitVec 32 := Scalar.addi v159 c2_i32_85
  let c95_i32_86 : BitVec 32 := 95#32
  let v161 : BitVec 1 := Scalar.cmpi .eq v160 c95_i32_86
  let v162 : BitVec 32 := Scalar.extui v161
  let c0_i32_87 : BitVec 32 := 0#32
  let v163 : BitVec 1 := Scalar.cmpi .ne v162 c0_i32_87
  v163

def k0_off35 (i : grid0.Coords) : Fin 2 → Nat :=
  let c0_i32_91 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v167 : BitVec 32 := Scalar.addi v5 c20864_i32
  ![0, v167.toNat]
def k0_off36 (i : grid0.Coords) : Fin 2 → Nat :=
  let c1_i32_95 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v167 : BitVec 32 := Scalar.addi v5 c20864_i32
  ![1, v167.toNat]
def k0_off37 (i : grid0.Coords) : Fin 2 → Nat :=
  let c2_i32_99 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v167 : BitVec 32 := Scalar.addi v5 c20864_i32
  ![2, v167.toNat]
def k0_off38 (i : grid0.Coords) : Fin 2 → Nat :=
  let c3_i32_103 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v167 : BitVec 32 := Scalar.addi v5 c20864_i32
  ![3, v167.toNat]
def k0_cond7 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_84 : BitVec 32 := 3#32
  let v159 : BitVec 32 := Scalar.muli v1 c3_i32_84
  let c2_i32_85 : BitVec 32 := 2#32
  let v160 : BitVec 32 := Scalar.addi v159 c2_i32_85
  let c95_i32_88 : BitVec 32 := 95#32
  let v164 : BitVec 1 := Scalar.cmpi .ne v160 c95_i32_88
  let v165 : BitVec 32 := Scalar.extui v164
  let c0_i32_89 : BitVec 32 := 0#32
  let v166 : BitVec 1 := Scalar.cmpi .ne v165 c0_i32_89
  v166

def k0_off39 (i : grid0.Coords) : Fin 2 → Nat :=
  let c0_i32_91 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v167 : BitVec 32 := Scalar.addi v5 c20864_i32
  ![0, v167.toNat]
def k0_off40 (i : grid0.Coords) : Fin 2 → Nat :=
  let c1_i32_95 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v167 : BitVec 32 := Scalar.addi v5 c20864_i32
  ![1, v167.toNat]
def k0_off41 (i : grid0.Coords) : Fin 2 → Nat :=
  let c2_i32_99 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v167 : BitVec 32 := Scalar.addi v5 c20864_i32
  ![2, v167.toNat]
def k0_off42 (i : grid0.Coords) : Fin 2 → Nat :=
  let c3_i32_103 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31296_i32 : BitVec 32 := 31296#32
  let v5 : BitVec 32 := Scalar.muli v1 c31296_i32
  let c20864_i32 : BitVec 32 := 20864#32
  let v167 : BitVec 32 := Scalar.addi v5 c20864_i32
  ![3, v167.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000 : Shape := ⟨1, ![1000000]⟩
abbrev S_ : Shape := ⟨0, ![]⟩
abbrev S1 : Shape := ⟨1, ![1]⟩
abbrev S999999 : Shape := ⟨1, ![999999]⟩
abbrev S1000000x1 : Shape := ⟨2, ![1000000, 1]⟩
abbrev S1000000x4 : Shape := ⟨2, ![1000000, 4]⟩

abbrev nBuf : Space → Nat
  | .hbm => 31
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S_, .i32⟩
  | .hbm, ⟨2, _⟩ => ⟨S_, .i1⟩
  | .hbm, ⟨3, _⟩ => ⟨S1, .i1⟩
  | .hbm, ⟨4, _⟩ => ⟨S999999, .i32⟩
  | .hbm, ⟨5, _⟩ => ⟨S999999, .i32⟩
  | .hbm, ⟨6, _⟩ => ⟨S999999, .i1⟩
  | .hbm, ⟨7, _⟩ => ⟨S1000000, .i1⟩
  | .hbm, ⟨8, _⟩ => ⟨S_, .i32⟩
  | .hbm, ⟨9, _⟩ => ⟨S_, .i32⟩
  | .hbm, ⟨10, _⟩ => ⟨S1000000, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S1000000, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S1000000, .i32⟩
  | .hbm, ⟨19, _⟩ => ⟨S1000000, .i1⟩
  | .hbm, ⟨20, _⟩ => ⟨S1000000, .i1⟩
  | .hbm, ⟨21, _⟩ => ⟨S1000000, .f32⟩
  | .hbm, ⟨22, _⟩ => ⟨S1000000, .i32⟩
  | .hbm, ⟨23, _⟩ => ⟨S1000000, .i1⟩
  | .hbm, ⟨24, _⟩ => ⟨S1000000, .f32⟩
  | .hbm, ⟨25, _⟩ => ⟨S1000000x1, .f32⟩
  | .hbm, ⟨26, _⟩ => ⟨S1000000x1, .f32⟩
  | .hbm, ⟨27, _⟩ => ⟨S1000000x1, .f32⟩
  | .hbm, ⟨28, _⟩ => ⟨S1000000x1, .f32⟩
  | .hbm, ⟨29, _⟩ => ⟨S1000000x4, .f32⟩
  | .hbm, ⟨30, _⟩ => ⟨S1000000x4, .i32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Common.lean ====
/-
  The launch set-up of the kernel (the version the certificate is about): what the handshakes carry, how the planes'
  array is cut into the pieces the thirty-two tasks write, and what each element of it must hold.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Batch
public import proofs.«01_k».proof.Proof.Gen.KernelIdeal
public import proofs.«01_k».proof.Proof.Gen.KernelIdeal.Skeleton

@[expose] public section

noncomputable section

namespace Cert.Proof.Para

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev iLoc (d : Dev nD) : Loc nD τ sig := (SparseCore.T d).loc main_arg0
abbrev aLoc (d : Dev nD) : Loc nD τ sig := (SparseCore.T d).loc main_arg1
abbrev pLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

abbrev iV : Memref sig .scVector .hbm S1000000 .i32 := Memref.whole main_arg0_scv
abbrev pV : Memref sig .scVector .hbm S16 .i32 := Memref.whole main_v1_scv
abbrev oV : Memref sig .scVector .hbm S4x1000000 .i32 := Memref.whole main_v2_scv
abbrev inV : Memref sig .scVector .vmem S31304 .i32 := Memref.whole cc0_scratch0
abbrev mpV : Memref sig .scVector .vmem S16 .i32 := Memref.whole cc0_scratch1
abbrev aV : Memref sig .scVector .vmem S4x10440 .i32 := Memref.whole cc0_scratch2
abbrev bV : Memref sig .scVector .vmem S4x10440 .i32 := Memref.whole cc0_scratch3

/-! ## What the planes hold -/

/-- A truth value as a 32-bit word. -/
def flag (b : Bool) : BitVec 32 := if b then 1#32 else 0#32

/-- Plane `f` at a position whose paragraph number is `cur`, the one before it `prev`, the last paragraph's number being
    `mp`: does a new paragraph start; is it paragraph zero; is it neither the first nor the last; is it the last. -/
def cell (mp cur prev : BitVec 32) (f : ℕ) : BitVec 32 :=
  match f with
  | 0 => flag (cur != prev)
  | 1 => flag (cur == 0#32)
  | 2 => (1#32 - flag (cur == 0#32)) - flag (cur == mp)
  | _ => flag (cur == mp)

/-- The index of a vector at one position. -/
def at1 {N : ℕ} (n : Fin N) : (⟨1, ![N]⟩ : Shape).Idx := fun a => match a with | 0 => n

/-- Word `n` of the paragraph numbers (zero past the end). -/
def idAt (ids : S1000000.Idx → BitVec 32) (n : ℕ) : BitVec 32 := if h : n < 1000000 then ids (at1 ⟨n, h⟩) else 0#32

/-- The paragraph numbers with eight words of `-1` before them. -/
def strm (ids : S1000000.Idx → BitVec 32) (n : ℕ) : BitVec 32 := if n < 8 then 4294967295#32 else idAt ids (n - 8)

/-- Word `n` of a task's window (zero past the end). -/
def bufAt (g : S31304.Idx → BitVec 32) (n : ℕ) : BitVec 32 := if h : n < 31304 then g (at1 ⟨n, h⟩) else 0#32

/-- The number of the last paragraph, sixteen times over, as `@main` computes it. -/
def mpBuf (d : Dev nD) : Buf (Elt F) (pLoc d) :=
  broadcastInDim S16 ![] bcast_S_S16
    (subi (m (aLoc d) : (⟨S_, .i32⟩ : BufTy).Contents (Elt F)) (constantI S_ 32 1#32) : (⟨S_, .i32⟩ : BufTy).Contents (Elt F))

/-- The number of the last paragraph. -/
def mpW (d : Dev nD) : BitVec 32 := (show S_.Idx → BitVec 32 from m (aLoc d)) (fun a => a.elim0) - 1#32

theorem mpBuf_apply (d : Dev nD) (x : S16.Idx) : (mpBuf m d : S16.Idx → BitVec 32) x = mpW m d := by
  unfold mpBuf mpW
  simp only [broadcastInDim, subi, constantI]
  exact congrArg (fun j => (show S_.Idx → BitVec 32 from m (aLoc d)) j - 1#32) (funext fun a => a.elim0)

/-- What the planes' array must hold. -/
def G (d : Dev nD) : Buf (Elt F) (oLoc d) := fun p : S4x1000000.Idx =>
  cell (mpW m d) (strm (m (iLoc d)) ((p 1).val + 8)) (strm (m (iLoc d)) ((p 1).val + 7)) (p 0).val

/-! ## The pieces of the planes' array -/

/-- Plane `f`, columns `[10432 k, 10432 (k + 1))`. -/
def pset (k f : ℕ) : Finset S4x1000000.Idx := Finset.univ.filter fun p => (p 0).val = f ∧ (p 1).val / 10432 = k

theorem mem_pset {k f : ℕ} {p : S4x1000000.Idx} : p ∈ pset k f ↔ (p 0).val = f ∧ (p 1).val / 10432 = k := by simp [pset]

theorem set_unit (n : ℕ) (size off : Fin 2 → ℕ) (inb : ∀ a : Fin 2, off a + size a ≤ S4x1000000.size a) (k f : ℕ)
    (hs : size = ![1, n]) (ho : off = ![f, 10432 * k]) (hn : (n = 10432 ∧ k < 95) ∨ (n = 8960 ∧ k = 95)) :
    (Rect.unit (s := S4x1000000) off size inb).set = pset k f := by
  subst hs ho
  ext p
  have h1 : (p 1).val < 1000000 := (p 1).isLt
  rw [Rect.mem_set_unit, mem_pset]
  constructor
  · intro h
    have h0 := h 0
    have h2 := h 1
    simp only [Matrix.cons_val_zero, Matrix.cons_val_one] at h0 h2
    omega
  · intro h a
    match a with
    | 0 => show f ≤ (p 0).val ∧ (p 0).val < f + 1; omega
    | 1 => show 10432 * k ≤ (p 1).val ∧ (p 1).val < 10432 * k + n; omega

theorem set_full (off : Fin 2 → ℕ) (inb : ∀ a : Fin 2, off a + S1x10432.size a ≤ S4x1000000.size a) (k f : ℕ)
    (ho : off = ![f, 10432 * k]) (hk : k < 95) :
    (((oV).slice (Rect.unit (s := S4x1000000) off S1x10432.size inb) (fun _ => rfl)).squeeze S10432 squeezes_S1x10432_S10432).view.set = pset k f := by
  show (((oV).view.slice (Rect.unit (s := S4x1000000) off S1x10432.size inb)).reshape S10432 squeezes_S1x10432_S10432.numel_eq).set = _
  rw [View.set_reshape, View.set_slice]
  exact Finset.map_refl.trans (set_unit 10432 _ _ inb k f rfl ho (.inl ⟨rfl, hk⟩))

theorem set_tail (off : Fin 2 → ℕ) (inb : ∀ a : Fin 2, off a + S1x8960.size a ≤ S4x1000000.size a) (f : ℕ)
    (ho : off = ![f, 10432 * 95]) :
    (((oV).slice (Rect.unit (s := S4x1000000) off S1x8960.size inb) (fun _ => rfl)).squeeze S8960 squeezes_S1x8960_S8960).view.set = pset 95 f := by
  show (((oV).view.slice (Rect.unit (s := S4x1000000) off S1x8960.size inb)).reshape S8960 squeezes_S1x8960_S8960.numel_eq).set = _
  rw [View.set_reshape, View.set_slice]
  exact Finset.map_refl.trans (set_unit 8960 _ _ inb 95 f rfl ho (.inr ⟨rfl, rfl⟩))

/-! ## What the handshakes carry -/

/-- Task `w`'s share of the two arrays every task reads. -/
abbrev shr (w : ℕ) : PosShare TreeShare := Transfers.shareTokN fullShare w

/-- The four planes' pieces of columns `[10432 k, 10432 (k + 1))`. -/
abbrev chunk (d : Dev nD) (k : ℕ) (f : Buf (Elt F) (oLoc d)) : sProp 𝕄 :=
  iprop((oLoc d ↦[pset k 0]{fullShare} f) ∗ (oLoc d ↦[pset k 1]{fullShare} f) ∗ (oLoc d ↦[pset k 2]{fullShare} f) ∗ oLoc d ↦[pset k 3]{fullShare} f)

/-- What task `w` holds: its shares of the paragraph numbers and of the last paragraph's number, its three chunks. -/
abbrev tilePts (d : Dev nD) (w : ℕ) (f : Buf (Elt F) (oLoc d)) : sProp 𝕄 :=
  iprop((iLoc d ↦{shr w} m (iLoc d)) ∗ (pLoc d ↦{shr w} mpBuf m d) ∗ chunk d (3 * w) f ∗ chunk d (3 * w + 1) f ∗ chunk d (3 * w + 2) f)

/-- Every task brings its shares and its pieces and takes the pieces back at what they must hold. -/
def P : (K (F := F)).Pay (nD := nD) (Val := Elt F) (Name := ℕ) (U := UU) where
  st := fun _ d c => bigSep Finset.univ fun i : Fin 16 => tilePts m d (2 * i.val + c.val) (m (oLoc d))
  dn := fun _ d c => bigSep Finset.univ fun i : Fin 16 => tilePts m d (2 * i.val + c.val) (G m d)
  go := fun _ d c i => tilePts m d (2 * i.val + c.val) (m (oLoc d))
  td := fun _ d c i => tilePts m d (2 * i.val + c.val) (G m d)
  x := fun _ _ => iprop(emp)

instance P_storable : (P (F := F) m).IsStorable where
  st _ d c := (inferInstance : BI.Storable (upEmb : UEmb _ 𝕄) (bigSep Finset.univ fun i : Fin 16 => tilePts m d (2 * i.val + c.val) (m (oLoc d))))
  dn _ d c := (inferInstance : BI.Storable (upEmb : UEmb _ 𝕄) (bigSep Finset.univ fun i : Fin 16 => tilePts m d (2 * i.val + c.val) (G m d)))
  go _ d c i := (inferInstance : BI.Storable (upEmb : UEmb _ 𝕄) (tilePts m d (2 * i.val + c.val) (m (oLoc d))))
  td _ d c i := (inferInstance : BI.Storable (upEmb : UEmb _ 𝕄) (tilePts m d (2 * i.val + c.val) (G m d)))

/-! ## The subcore's own semaphores and buffers -/

section Own

variable (d : Dev nD) (L : grid0.Coords)

abbrev cV (L : grid0.Coords) : Fin τ.nSC := (L 0).castLE hcore0
abbrev jV (L : grid0.Coords) : Fin τ.nSub := (L 1).castLE hsub0
/-- The task's number. -/
abbrev wk (L : grid0.Coords) : ℕ := 2 * (L 1).val + (L 0).val

abbrev dcell (t : Thread nD τ) (s : DmaSems sig S_) : GSem nD τ sig := (t, .dma s.sem)

theorem ownSems0_V (t : Thread nD τ) (ht : t = SparseCore.V d (cV L) (jV L)) :
    (ownSems0 t : sProp 𝕄)
      = iprop(semVal (dcell t cc0_scratch4) 0 ∗ semVal (dcell t cc0_scratch5) 0 ∗ semVal (dcell t cc0_scratch6) 0
          ∗ semVal (dcell t cc0_scoped0) 0 ∗ semVal (dcell t cc0_scoped1) 0 ∗ semVal (dcell t cc0_scoped2) 0 ∗ semVal (dcell t cc0_scoped3) 0
          ∗ bigSep ((((((((ownCells t).erase (dcell t cc0_scratch4)).erase (dcell t cc0_scratch5)).erase (dcell t cc0_scratch6)).erase
              (dcell t cc0_scoped0)).erase (dcell t cc0_scoped1)).erase (dcell t cc0_scoped2)).erase (dcell t cc0_scoped3)) fun g => semVal g 0) := by
  have hm : ∀ s : DmaSems sig S_, (SemLoc.dma s.sem : SemLoc sig).isScoped .scVector = true → dcell t s ∈ ownCells t := fun s hs =>
    (mem_ownCells (g := dcell t s)).mpr ⟨rfl, by subst ht; exact hs⟩
  have hne : ∀ s s' : DmaSems sig S_, s.sem ≠ s'.sem → dcell t s ≠ dcell t s' := fun s s' h e => h (by
    have := congrArg Prod.snd e
    exact SemLoc.dma.inj this)
  unfold SparseCore.Cfg.ownSems0
  rw [SparseCore.bigSep_erase' (i := dcell t cc0_scratch4) (hm _ (by decide)),
    SparseCore.bigSep_erase' (i := dcell t cc0_scratch5) (by simp only [Finset.mem_erase]; exact ⟨hne _ _ (by decide), hm _ (by decide)⟩),
    SparseCore.bigSep_erase' (i := dcell t cc0_scratch6) (by simp only [Finset.mem_erase]; exact ⟨hne _ _ (by decide), hne _ _ (by decide), hm _ (by decide)⟩),
    SparseCore.bigSep_erase' (i := dcell t cc0_scoped0) (by
      simp only [Finset.mem_erase]; exact ⟨hne _ _ (by decide), hne _ _ (by decide), hne _ _ (by decide), hm _ (by decide)⟩),
    SparseCore.bigSep_erase' (i := dcell t cc0_scoped1) (by
      simp only [Finset.mem_erase]; exact ⟨hne _ _ (by decide), hne _ _ (by decide), hne _ _ (by decide), hne _ _ (by decide), hm _ (by decide)⟩),
    SparseCore.bigSep_erase' (i := dcell t cc0_scoped2) (by
      simp only [Finset.mem_erase]
      exact ⟨hne _ _ (by decide), hne _ _ (by decide), hne _ _ (by decide), hne _ _ (by decide), hne _ _ (by decide), hm _ (by decide)⟩),
    SparseCore.bigSep_erase' (i := dcell t cc0_scoped3) (by
      simp only [Finset.mem_erase]
      exact ⟨hne _ _ (by decide), hne _ _ (by decide), hne _ _ (by decide), hne _ _ (by decide), hne _ _ (by decide), hne _ _ (by decide), hm _ (by decide)⟩)]

abbrev bref (c : Fin τ.nSC) (i : Fin τ.nSub) (r : Ref sig .scVector) : DevRef τ sig := (Proc.scVector c i).devRef r

theorem ownBufs_V :
    (ownBufs (SparseCore.V d (cV L) (jV L)) : sProp 𝕄)
      = iprop((∃ f, (inV).view.loc (SparseCore.V d (cV L) (jV L)) ↦{fullShare} f) ∗ (∃ f, (mpV).view.loc (SparseCore.V d (cV L) (jV L)) ↦{fullShare} f)
          ∗ (∃ f, (aV).view.loc (SparseCore.V d (cV L) (jV L)) ↦{fullShare} f) ∗ (∃ f, (bV).view.loc (SparseCore.V d (cV L) (jV L)) ↦{fullShare} f)
          ∗ bigSep (((((ownRefs (τ := τ) (.scVector (cV L) (jV L))).erase (bref (cV L) (jV L) cc0_scratch0)).erase (bref (cV L) (jV L) cc0_scratch1)).erase
              (bref (cV L) (jV L) cc0_scratch2)).erase (bref (cV L) (jV L) cc0_scratch3))
              fun b => iprop(∃ f, ((d, b) : Loc nD τ sig) ↦{fullShare} f)) := by
  have hm : ∀ r : Ref sig .scVector, (bref (cV L) (jV L) r).owner = .proc (.scVector (cV L) (jV L)) → bref (cV L) (jV L) r ∈ ownRefs (τ := τ) (.scVector (cV L) (jV L)) :=
    fun r h => SparseCore.Cfg.mem_ownRefs_of_owner (p := Proc.scVector (cV L) (jV L)) h
  have hne : ∀ r r' : Ref sig .scVector, r ≠ r' → bref (cV L) (jV L) r ≠ bref (cV L) (jV L) r' := fun r r' h e => h (Proc.devRef_injective _ e)
  unfold SparseCore.Cfg.ownBufs
  rw [SparseCore.bigSep_erase' (i := bref (cV L) (jV L) cc0_scratch0) (hm _ rfl),
    SparseCore.bigSep_erase' (i := bref (cV L) (jV L) cc0_scratch1) (Finset.mem_erase.mpr ⟨hne _ _ (by decide), hm _ rfl⟩),
    SparseCore.bigSep_erase' (i := bref (cV L) (jV L) cc0_scratch2) (Finset.mem_erase.mpr ⟨hne _ _ (by decide), Finset.mem_erase.mpr ⟨hne _ _ (by decide), hm _ rfl⟩⟩),
    SparseCore.bigSep_erase' (i := bref (cV L) (jV L) cc0_scratch3) (Finset.mem_erase.mpr ⟨hne _ _ (by decide), Finset.mem_erase.mpr ⟨hne _ _ (by decide),
      Finset.mem_erase.mpr ⟨hne _ _ (by decide), hm _ rfl⟩⟩⟩)]

end Own

end Cert.Proof.Para

end
-- ==== Proof.Loops.lean ====
/-
  One trip of each of the four counted loops: sixteen columns of the four planes, computed from sixteen words of the
  window and the sixteen words one to the left.
-/
module

public import proofs.«01_k».proof.Proof.Common
public import Idealize.ShloMosaic.Lib.WritesUnit
public import Idealize.ShloMosaic.Lib.Pipeline.Value

@[expose] public section

noncomputable section

namespace Cert.Proof.Para

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Columns below `n` of the four planes hold what they must, `off` words into the window `g`. -/
def Done (mp : BitVec 32) (g : S31304.Idx → BitVec 32) (off n : ℕ) (fo : S4x10440.Idx → BitVec 32) : Prop :=
  ∀ p : S4x10440.Idx, (p 1).val < n → fo p = cell mp (bufAt g ((p 1).val + off + 8)) (bufAt g ((p 1).val + off + 7)) (p 0).val

theorem Done.zero (mp : BitVec 32) (g : S31304.Idx → BitVec 32) (off : ℕ) (fo : S4x10440.Idx → BitVec 32) : Done mp g off 0 fo :=
  fun _ h => absurd h (Nat.not_lt_zero _)

/-! ## Sixteen words at a time -/

theorem select_flag (b : Bool) : Scalar.select (BitVec.ofBool b) (1#32 : BitVec 32) 0#32 = flag b := by cases b <;> rfl

/-- A load of sixteen words of the window. -/
theorem load_window (g : S31304.Idx → BitVec 32) (off : Fin 1 → ℕ) (inb : ∀ a : Fin 1, off a + S16.size a ≤ S31304.size a) (o : ℕ)
    (ho : off = ![o]) (x : S16.Idx) :
    (inV).view.readAt (Elt F) (Rect.unit (s := S31304) off S16.size inb).toLoadRect g x = bufAt g (o + (x 0).val) := by
  subst ho
  have hx : (x 0).val < 16 := (x 0).isLt
  have hb : o + 16 ≤ 31304 := inb 0
  unfold bufAt
  rw [dif_pos (by omega), View.readAt_apply]
  show g _ = g _
  refine congrArg g (funext fun a => ?_)
  match a with
  | 0 => exact Fin.ext (show o + 1 * (x 0).val = o + (x 0).val by rw [Nat.one_mul])

/-- The four stores of one trip, plane by plane, extend the finished columns by sixteen. -/
theorem Done.step {κ : Kind} {sp : Space} {v : View sig κ sp S4x10440 .i32} {mp : BitVec 32} {g : S31304.Idx → BitVec 32} {off k : ℕ}
    {f : v.ty.Contents (Elt F)} (hd : Done mp g off (16 * k) (v.read (Elt F) f))
    {o0 o1 o2 o3 : Fin 2 → ℕ} (h0 : ∀ a : Fin 2, o0 a + S1x16.size a ≤ S4x10440.size a) (h1 : ∀ a : Fin 2, o1 a + S1x16.size a ≤ S4x10440.size a)
    (h2 : ∀ a : Fin 2, o2 a + S1x16.size a ≤ S4x10440.size a) (h3 : ∀ a : Fin 2, o3 a + S1x16.size a ≤ S4x10440.size a)
    (q0 q1 q2 q3 : S16.Idx → BitVec 32) (hc0 hc1 hc2 hc3 : S16.ShapeCasts S1x16)
    (e0 : o0 = ![0, 16 * k]) (e1 : o1 = ![1, 16 * k]) (e2 : o2 = ![2, 16 * k]) (e3 : o3 = ![3, 16 * k])
    (hq0 : ∀ x : S16.Idx, q0 x = cell mp (bufAt g (16 * k + (x 0).val + off + 8)) (bufAt g (16 * k + (x 0).val + off + 7)) 0)
    (hq1 : ∀ x : S16.Idx, q1 x = cell mp (bufAt g (16 * k + (x 0).val + off + 8)) (bufAt g (16 * k + (x 0).val + off + 7)) 1)
    (hq2 : ∀ x : S16.Idx, q2 x = cell mp (bufAt g (16 * k + (x 0).val + off + 8)) (bufAt g (16 * k + (x 0).val + off + 7)) 2)
    (hq3 : ∀ x : S16.Idx, q3 x = cell mp (bufAt g (16 * k + (x 0).val + off + 8)) (bufAt g (16 * k + (x 0).val + off + 7)) 3) :
    Done mp g off (16 * (k + 1)) (v.read (Elt F) (v.writes (Elt F) f
      [⟨Rect.unit (s := S4x10440) o3 S1x16.size h3, shapeCast S1x16 q3 hc3⟩, ⟨Rect.unit (s := S4x10440) o2 S1x16.size h2, shapeCast S1x16 q2 hc2⟩,
        ⟨Rect.unit (s := S4x10440) o1 S1x16.size h1, shapeCast S1x16 q1 hc1⟩, ⟨Rect.unit (s := S4x10440) o0 S1x16.size h0, shapeCast S1x16 q0 hc0⟩])) := by
  intro p hp
  have hp0 : (p 0).val < 4 := (p 0).isLt
  have hit : ∀ (o : Fin 2 → ℕ) (h : ∀ a : Fin 2, o a + S1x16.size a ≤ S4x10440.size a) (q : S16.Idx → BitVec 32) (hc : S16.ShapeCasts S1x16)
      (fl : ℕ) (rest : List (View.Piece (Elt F) S4x10440 .i32)), o = ![fl, 16 * k] → (p 0).val = fl → 16 * k ≤ (p 1).val →
      (∀ x : S16.Idx, q x = cell mp (bufAt g (16 * k + (x 0).val + off + 8)) (bufAt g (16 * k + (x 0).val + off + 7)) fl) →
      v.read (Elt F) (v.writes (Elt F) f (⟨Rect.unit (s := S4x10440) o S1x16.size h, shapeCast S1x16 q hc⟩ :: rest)) p
        = cell mp (bufAt g ((p 1).val + off + 8)) (bufAt g ((p 1).val + off + 7)) (p 0).val := by
    intro o h q hc fl rest ho hf hk hq
    have hx : (p 1).val - 16 * k < 16 := by omega
    refine (View.read_writes_cons_unit_of_mem v f h _ rest p
      (fun a => match a with | 0 => ⟨0, Nat.one_pos⟩ | 1 => ⟨(p 1).val - 16 * k, hx⟩) ho (fun a => ?_)).trans ?_
    · match a with
      | 0 => exact hf.trans (Nat.add_zero _).symm
      | 1 => show (p 1).val = 16 * k + ((p 1).val - 16 * k); omega
    · refine (shapeCast_addUnit_apply (d := ![16]) q hc _).trans ((hq _).trans ?_)
      show cell mp (bufAt g (16 * k + ((p 1).val - 16 * k) + off + 8)) (bufAt g (16 * k + ((p 1).val - 16 * k) + off + 7)) fl = _
      rw [hf, show 16 * k + ((p 1).val - 16 * k) = (p 1).val by omega]
  have miss : ∀ (o : Fin 2 → ℕ) (h : ∀ a : Fin 2, o a + S1x16.size a ≤ S4x10440.size a) (w : S1x16.Idx → BitVec 32)
      (fl : ℕ) (rest : List (View.Piece (Elt F) S4x10440 .i32)), o = ![fl, 16 * k] → ((p 0).val ≠ fl ∨ (p 1).val < 16 * k) →
      v.read (Elt F) (v.writes (Elt F) f (⟨Rect.unit (s := S4x10440) o S1x16.size h, w⟩ :: rest)) p = v.read (Elt F) (v.writes (Elt F) f rest) p := by
    intro o h w fl rest ho hf
    by_cases h1 : (p 1).val < 16 * k
    · exact View.read_writes_cons_unit_of_not_mem v f h w rest p ho 1 (.inl h1)
    · refine View.read_writes_cons_unit_of_not_mem v f h w rest p ho 0 ?_
      show (p 0).val < fl ∨ fl + 1 ≤ (p 0).val
      omega
  by_cases hk : (p 1).val < 16 * k
  · rw [miss _ h3 _ 3 _ e3 (.inr hk), miss _ h2 _ 2 _ e2 (.inr hk), miss _ h1 _ 1 _ e1 (.inr hk), miss _ h0 _ 0 _ e0 (.inr hk)]
    exact hd p hk
  rcases (by omega : (p 0).val = 0 ∨ (p 0).val = 1 ∨ (p 0).val = 2 ∨ (p 0).val = 3) with h | h | h | h
  · rw [miss _ h3 _ 3 _ e3 (.inl (by omega)), miss _ h2 _ 2 _ e2 (.inl (by omega)), miss _ h1 _ 1 _ e1 (.inl (by omega))]
    exact hit _ h0 q0 hc0 0 _ e0 h (by omega) hq0
  · rw [miss _ h3 _ 3 _ e3 (.inl (by omega)), miss _ h2 _ 2 _ e2 (.inl (by omega))]
    exact hit _ h1 q1 hc1 1 _ e1 h (by omega) hq1
  · rw [miss _ h3 _ 3 _ e3 (.inl (by omega))]
    exact hit _ h2 q2 hc2 2 _ e2 h (by omega) hq2
  · exact hit _ h3 q3 hc3 3 _ e3 h (by omega) hq3

/-! ## The four loops' trips -/

variable (d : Dev nD) (L : grid0.Coords)

abbrev thr (d : Dev nD) (L : grid0.Coords) : Thread nD τ := SparseCore.V d (cV L) (jV L)
abbrev inPts (g : Buf (Elt F) ((inV).view.loc (thr d L))) : sProp 𝕄 := (inV).view.loc (thr d L) ↦{fullShare} g
abbrev aPts (f : Buf (Elt F) ((aV).view.loc (thr d L))) : sProp 𝕄 := (aV).view.loc (thr d L) ↦{fullShare} f
abbrev bPts (f : Buf (Elt F) ((bV).view.loc (thr d L))) : sProp 𝕄 := (bV).view.loc (thr d L) ↦{fullShare} f

/-- One trip of loop 1. -/
theorem trip1 (v2 : Vec F S16 .i32) (mp : BitVec 32) (hmp : ∀ x : S16.Idx, v2 x = mp) (k : Fin k0_t1_loop.trips)
    (g : Buf (Elt F) ((inV).view.loc (thr d L))) :
    iprop(inPts d L g ∗ ∃ fo, ⌜Done mp g 0 (16 * k.val) fo⌝ ∗ aPts d L fo)
      ⊢ (wp frame (wpE (defs₀ (F := F)) 𝒱₀ (thr d L) none) Set.univ
          (k0_t1_body L iV (Memref.isWhole_whole _) pV (Memref.isWhole_whole _) oV (Memref.isWhole_whole _) inV (Memref.isWhole_whole _)
            mpV (Memref.isWhole_whole _) aV (Memref.isWhole_whole _) bV (Memref.isWhole_whole _) cc0_scratch4 cc0_scratch5 cc0_scratch6
            cc0_scoped0 cc0_scoped1 cc0_scoped2 cc0_scoped3 v2 k ())
          fun _ => iprop(inPts d L g ∗ ∃ fo, ⌜Done mp g 0 (16 * (k.val + 1)) fo⌝ ∗ aPts d L fo) : sProp 𝕄) := by
  unfold k0_t1_body
  iintro ⟨Hin, %fo, %hd, Ha⟩
  sl_exec
  sl_step
  isplitl [Hin]
  · iexact Hin
  iexists _
  isplitr
  swap
  · iexact Ha
  ipureintro
  have ec : ∀ x : S16.Idx, _ = _ := load_window (F := F) g (k0_off3 k 8#32) (k0_off3_inb k 1) _ (k0_off3_eq k 1)
  have ep : ∀ x : S16.Idx, _ = _ := load_window (F := F) g (k0_off3 k 7#32) (k0_off3_inb k 0) _ (k0_off3_eq k 0)
  have ec' : ∀ x : S16.Idx, _ = bufAt g (16 * k.val + (x 0).val + 0 + 8) := fun x =>
    (ec x).trans (congrArg (bufAt g) (by show 1 + 16 * k.val + 7 + (x 0).val = _; omega))
  have ep' : ∀ x : S16.Idx, _ = bufAt g (16 * k.val + (x 0).val + 0 + 7) := fun x =>
    (ep x).trans (congrArg (bufAt g) (by show 0 + 16 * k.val + 7 + (x 0).val = _; omega))
  exact Done.step (F := F) (f := fo) (v := (aV).view) (mp := mp) (g := g) (off := 0) (k := k.val) hd (k0_off4_inb k) (k0_off5_inb k) (k0_off6_inb k) (k0_off7_inb k) _ _ _ _ _ _ _ _
    (k0_off4_eq k) (k0_off5_eq k) (k0_off6_eq k) (k0_off7_eq k)
    (fun x => by rw [← ec' x, ← ep' x]; exact select_flag _)
    (fun x => by rw [← ec' x]; exact select_flag _)
    (fun x => by
      rw [← ec' x, ← hmp x]
      exact congrArg₂ (fun a b : BitVec 32 => 1#32 - a - b) (select_flag _) (select_flag _))
    (fun x => by rw [← ec' x, ← hmp x]; exact select_flag _)

/-- One trip of loop 2. -/
theorem trip2 (v2 : Vec F S16 .i32) (v5 : BitVec 32) (mp : BitVec 32) (hmp : ∀ x : S16.Idx, v2 x = mp) (k : Fin k0_t2_loop.trips)
    (g : Buf (Elt F) ((inV).view.loc (thr d L))) :
    iprop(inPts d L g ∗ ∃ fo, ⌜Done mp g 10432 (16 * k.val) fo⌝ ∗ bPts d L fo)
      ⊢ (wp frame (wpE (defs₀ (F := F)) 𝒱₀ (thr d L) none) Set.univ
          (k0_t2_body L iV (Memref.isWhole_whole _) pV (Memref.isWhole_whole _) oV (Memref.isWhole_whole _) inV (Memref.isWhole_whole _)
            mpV (Memref.isWhole_whole _) aV (Memref.isWhole_whole _) bV (Memref.isWhole_whole _) cc0_scratch4 cc0_scratch5 cc0_scratch6
            cc0_scoped0 cc0_scoped1 cc0_scoped2 cc0_scoped3 v2 k0_pay9 k0_pay10 v5 k ())
          fun _ => iprop(inPts d L g ∗ ∃ fo, ⌜Done mp g 10432 (16 * (k.val + 1)) fo⌝ ∗ bPts d L fo) : sProp 𝕄) := by
  unfold k0_t2_body
  iintro ⟨Hin, %fo, %hd, Ha⟩
  sl_exec
  sl_step
  isplitl [Hin]
  · iexact Hin
  iexists _
  isplitr
  swap
  · iexact Ha
  ipureintro
  have ec : ∀ x : S16.Idx, _ = _ := load_window (F := F) g (k0_off12 k 10440#32) (k0_off12_inb k 1) _ (k0_off12_eq k 1)
  have ep : ∀ x : S16.Idx, _ = _ := load_window (F := F) g (k0_off12 k 10439#32) (k0_off12_inb k 0) _ (k0_off12_eq k 0)
  have ec' : ∀ x : S16.Idx, _ = bufAt g (16 * k.val + (x 0).val + 10432 + 8) := fun x =>
    (ec x).trans (congrArg (bufAt g) (by show 1 + 16 * k.val + 10439 + (x 0).val = _; omega))
  have ep' : ∀ x : S16.Idx, _ = bufAt g (16 * k.val + (x 0).val + 10432 + 7) := fun x =>
    (ep x).trans (congrArg (bufAt g) (by show 0 + 16 * k.val + 10439 + (x 0).val = _; omega))
  exact Done.step (F := F) (f := fo) (v := (bV).view) (mp := mp) (g := g) (off := 10432) (k := k.val) hd (k0_off13_inb k) (k0_off14_inb k) (k0_off15_inb k) (k0_off16_inb k) _ _ _ _ _ _ _ _
    (k0_off13_eq k) (k0_off14_eq k) (k0_off15_eq k) (k0_off16_eq k)
    (fun x => by rw [← ec' x, ← ep' x]; exact select_flag _)
    (fun x => by rw [← ec' x]; exact select_flag _)
    (fun x => by
      rw [← ec' x, ← hmp x]
      exact congrArg₂ (fun a b : BitVec 32 => 1#32 - a - b) (select_flag _) (select_flag _))
    (fun x => by rw [← ec' x, ← hmp x]; exact select_flag _)

/-- One trip of loop 3. -/
theorem trip3 (hc : k0_cond4 L = 1#1) (v2 : Vec F S16 .i32) (v5 : BitVec 32) (mp : BitVec 32) (hmp : ∀ x : S16.Idx, v2 x = mp) (k : Fin k0_t3_loop.trips)
    (g : Buf (Elt F) ((inV).view.loc (thr d L))) :
    iprop(inPts d L g ∗ ∃ fo, ⌜Done mp g 20864 (16 * k.val) fo⌝ ∗ aPts d L fo)
      ⊢ (wp frame (wpE (defs₀ (F := F)) 𝒱₀ (thr d L) none) Set.univ
          (k0_t3_body L iV (Memref.isWhole_whole _) pV (Memref.isWhole_whole _) oV (Memref.isWhole_whole _) inV (Memref.isWhole_whole _)
            mpV (Memref.isWhole_whole _) aV (Memref.isWhole_whole _) bV (Memref.isWhole_whole _) cc0_scratch4 cc0_scratch5 cc0_scratch6
            cc0_scoped0 cc0_scoped1 cc0_scoped2 cc0_scoped3 v2 k0_pay9 k0_pay10 v5 hc k ())
          fun _ => iprop(inPts d L g ∗ ∃ fo, ⌜Done mp g 20864 (16 * (k.val + 1)) fo⌝ ∗ aPts d L fo) : sProp 𝕄) := by
  unfold k0_t3_body
  iintro ⟨Hin, %fo, %hd, Ha⟩
  sl_exec
  sl_step
  isplitl [Hin]
  · iexact Hin
  iexists _
  isplitr
  swap
  · iexact Ha
  ipureintro
  have ec : ∀ x : S16.Idx, _ = _ := load_window (F := F) g (k0_off17 k 20872#32) (k0_off17_inb L k hc 1) _ (k0_off17_eq k 1)
  have ep : ∀ x : S16.Idx, _ = _ := load_window (F := F) g (k0_off17 k 20871#32) (k0_off17_inb L k hc 0) _ (k0_off17_eq k 0)
  have ec' : ∀ x : S16.Idx, _ = bufAt g (16 * k.val + (x 0).val + 20864 + 8) := fun x =>
    (ec x).trans (congrArg (bufAt g) (by show 1 + 16 * k.val + 20871 + (x 0).val = _; omega))
  have ep' : ∀ x : S16.Idx, _ = bufAt g (16 * k.val + (x 0).val + 20864 + 7) := fun x =>
    (ep x).trans (congrArg (bufAt g) (by show 0 + 16 * k.val + 20871 + (x 0).val = _; omega))
  exact Done.step (F := F) (f := fo) (v := (aV).view) (mp := mp) (g := g) (off := 20864) (k := k.val) hd (k0_off18_inb L k hc) (k0_off19_inb L k hc) (k0_off20_inb L k hc) (k0_off21_inb L k hc) _ _ _ _ _ _ _ _
    (k0_off18_eq k) (k0_off19_eq k) (k0_off20_eq k) (k0_off21_eq k)
    (fun x => by rw [← ec' x, ← ep' x]; exact select_flag _)
    (fun x => by rw [← ec' x]; exact select_flag _)
    (fun x => by
      rw [← ec' x, ← hmp x]
      exact congrArg₂ (fun a b : BitVec 32 => 1#32 - a - b) (select_flag _) (select_flag _))
    (fun x => by rw [← ec' x, ← hmp x]; exact select_flag _)

/-- One trip of loop 4. -/
theorem trip4 (hc : k0_cond5 L = 1#1) (v2 : Vec F S16 .i32) (v5 : BitVec 32) (mp : BitVec 32) (hmp : ∀ x : S16.Idx, v2 x = mp) (k : Fin k0_t4_loop.trips)
    (g : Buf (Elt F) ((inV).view.loc (thr d L))) :
    iprop(inPts d L g ∗ ∃ fo, ⌜Done mp g 20864 (16 * k.val) fo⌝ ∗ aPts d L fo)
      ⊢ (wp frame (wpE (defs₀ (F := F)) 𝒱₀ (thr d L) none) Set.univ
          (k0_t4_body L iV (Memref.isWhole_whole _) pV (Memref.isWhole_whole _) oV (Memref.isWhole_whole _) inV (Memref.isWhole_whole _)
            mpV (Memref.isWhole_whole _) aV (Memref.isWhole_whole _) bV (Memref.isWhole_whole _) cc0_scratch4 cc0_scratch5 cc0_scratch6
            cc0_scoped0 cc0_scoped1 cc0_scoped2 cc0_scoped3 v2 k0_pay9 k0_pay10 v5 hc k ())
          fun _ => iprop(inPts d L g ∗ ∃ fo, ⌜Done mp g 20864 (16 * (k.val + 1)) fo⌝ ∗ aPts d L fo) : sProp 𝕄) := by
  unfold k0_t4_body
  iintro ⟨Hin, %fo, %hd, Ha⟩
  sl_exec
  sl_step
  isplitl [Hin]
  · iexact Hin
  iexists _
  isplitr
  swap
  · iexact Ha
  ipureintro
  have ec : ∀ x : S16.Idx, _ = _ := load_window (F := F) g (k0_off26 k 20872#32) (k0_off26_inb L k hc 1) _ (k0_off26_eq k 1)
  have ep : ∀ x : S16.Idx, _ = _ := load_window (F := F) g (k0_off26 k 20871#32) (k0_off26_inb L k hc 0) _ (k0_off26_eq k 0)
  have ec' : ∀ x : S16.Idx, _ = bufAt g (16 * k.val + (x 0).val + 20864 + 8) := fun x =>
    (ec x).trans (congrArg (bufAt g) (by show 1 + 16 * k.val + 20871 + (x 0).val = _; omega))
  have ep' : ∀ x : S16.Idx, _ = bufAt g (16 * k.val + (x 0).val + 20864 + 7) := fun x =>
    (ep x).trans (congrArg (bufAt g) (by show 0 + 16 * k.val + 20871 + (x 0).val = _; omega))
  exact Done.step (F := F) (f := fo) (v := (aV).view) (mp := mp) (g := g) (off := 20864) (k := k.val) hd (k0_off27_inb L k hc) (k0_off28_inb L k hc) (k0_off29_inb L k hc) (k0_off30_inb L k hc) _ _ _ _ _ _ _ _
    (k0_off27_eq k) (k0_off28_eq k) (k0_off29_eq k) (k0_off30_eq k)
    (fun x => by rw [← ec' x, ← ep' x]; exact select_flag _)
    (fun x => by rw [← ec' x]; exact select_flag _)
    (fun x => by
      rw [← ec' x, ← hmp x]
      exact congrArg₂ (fun a b : BitVec 32 => 1#32 - a - b) (select_flag _) (select_flag _))
    (fun x => by rw [← ec' x, ← hmp x]; exact select_flag _)

end Cert.Proof.Para

end
-- ==== Proof.Tile.lean ====
/-
  One task: the fill of its window, the three chunks computed and copied out plane by plane.
-/
module

public import proofs.«01_k».proof.Proof.Loops

@[expose] public section

noncomputable section

namespace Cert.Proof.Para

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

theorem cond1_iff : ∀ L : grid0.Coords, (Scalar.cmpi .ne (Scalar.extui (Scalar.cmpi .eq (Scalar.addi (Scalar.muli (BitVec.ofNat 32 (L 1).val) 2#32)
    (BitVec.ofNat 32 (L 0).val)) 0#32) : BitVec 32) 0#32 = 1#1) ↔ wk L = 0 := by decide +kernel
theorem cond2_iff : ∀ L : grid0.Coords, (k0_cond2 L = 1#1) ↔ (wk L ≠ 0 ∧ wk L ≠ 31) := by decide +kernel
theorem cond3_iff : ∀ L : grid0.Coords, (k0_cond3 L = 1#1) ↔ wk L = 31 := by decide +kernel
theorem cond4_iff : ∀ L : grid0.Coords, (k0_cond4 L = 1#1) ↔ wk L = 31 := by decide +kernel
theorem cond5_iff : ∀ L : grid0.Coords, (k0_cond5 L = 1#1) ↔ wk L ≠ 31 := by decide +kernel
theorem cond6_iff : ∀ L : grid0.Coords, (k0_cond6 L = 1#1) ↔ wk L = 31 := by decide +kernel
theorem cond7_iff : ∀ L : grid0.Coords, (k0_cond7 L = 1#1) ↔ wk L ≠ 31 := by decide +kernel
theorem off1_eq : ∀ L : grid0.Coords, k0_cond2 L = 1#1 → k0_off1 L 0 = 31296 * wk L - 8 := by decide +kernel
theorem off2_eq : ∀ L : grid0.Coords, k0_cond3 L = 1#1 → k0_off2 L 0 = 31296 * wk L - 8 := by decide +kernel

/-- The task's window holds what it must: the eight words before its range, then its range. -/
def InOK (ids : S1000000.Idx → BitVec 32) (w : ℕ) (g : S31304.Idx → BitVec 32) : Prop :=
  ∀ n, n < 31304 → 31296 * w + n < 1000008 → bufAt g n = strm ids (31296 * w + n)

abbrev owesW (O : CellTallies nD τ sig (HIx 1)) (W : Waits sig (HIx 1)) : sProp 𝕄 :=
  iprop(∃ W', ⌜∀ p ∈ W', p ∈ W ∨ p.2 = none⌝ ∗ owes (thr d L) O W')

/-! ## The fill of the window -/

theorem src_word (ids : S1000000.Idx → BitVec 32) (off sz : Fin 1 → ℕ) (inb : ∀ a : Fin 1, off a + sz a ≤ S1000000.size a)
    (hs : ∀ a, (Rect.unit (s := S1000000) off sz inb).stride a = 1) (x : (Rect.unit (s := S1000000) off sz inb).shape.Idx) :
    (ReadAs.same.apply (Val := Elt F) (((iV).slice (Rect.unit (s := S1000000) off sz inb) hs).view.read (Elt F) ids)) x = idAt ids (off 0 + (x 0).val) := by
  have hx : (x 0).val < sz 0 := (x 0).isLt
  have hb : off 0 + sz 0 ≤ 1000000 := inb 0
  unfold idAt
  rw [dif_pos (by omega)]
  show ids _ = ids _
  refine congrArg ids (funext fun a => ?_)
  match a with
  | 0 => exact Fin.ext (show off 0 + 1 * (x 0).val = off 0 + (x 0).val by rw [Nat.one_mul])

theorem buf_hit (f : S31304.Idx → BitVec 32) (o : ℕ) (sz : Fin 1 → ℕ) (inb : ∀ a : Fin 1, (![o] : Fin 1 → ℕ) a + sz a ≤ S31304.size a)
    (w : (Rect.unit (s := S31304) ![o] sz inb).shape.Idx → BitVec 32) (rest : List (View.Piece (Elt F) S31304 .i32)) (v : ℕ → BitVec 32)
    (hw : ∀ x, w x = v (x 0).val) (n : ℕ) (h0 : o ≤ n) (h1 : n < o + sz 0) :
    bufAt ((inV).view.writes (Elt F) f (⟨Rect.unit (s := S31304) ![o] sz inb, w⟩ :: rest)) n = v (n - o) := by
  have hb : o + sz 0 ≤ 31304 := inb 0
  unfold bufAt
  rw [dif_pos (by omega)]
  refine (View.read_writes_cons_unit_of_mem (inV).view f inb w rest (at1 ⟨n, by omega⟩)
    (fun a => match a with | 0 => ⟨n - o, show n - o < sz 0 by omega⟩) rfl (fun a => ?_)).trans (hw _)
  match a with
  | 0 => show n = o + (n - o); omega

theorem buf_miss (f : S31304.Idx → BitVec 32) (o : ℕ) (sz : Fin 1 → ℕ) (inb : ∀ a : Fin 1, (![o] : Fin 1 → ℕ) a + sz a ≤ S31304.size a)
    (w : (Rect.unit (s := S31304) ![o] sz inb).shape.Idx → BitVec 32) (rest : List (View.Piece (Elt F) S31304 .i32)) (n : ℕ) (h0 : n < o) :
    bufAt ((inV).view.writes (Elt F) f (⟨Rect.unit (s := S31304) ![o] sz inb, w⟩ :: rest)) n = bufAt ((inV).view.writes (Elt F) f rest) n := by
  unfold bufAt
  by_cases hn : n < 31304
  · rw [dif_pos hn, dif_pos hn]
    exact View.read_writes_cons_unit_of_not_mem (inV).view f inb w rest (at1 ⟨n, hn⟩) rfl 0 (.inl h0)
  · rw [dif_neg hn, dif_neg hn]

theorem inOK_first (ids : S1000000.Idx → BitVec 32) (f : S31304.Idx → BitVec 32) (inb8 : ∀ a : Fin 1, (![8] : Fin 1 → ℕ) a + S31296.size a ≤ S31304.size a)
    (inb0 : ∀ a : Fin 1, (![0] : Fin 1 → ℕ) a + S16.size a ≤ S31304.size a) (w : S31296.Idx → BitVec 32) (hw : ∀ x : S31296.Idx, w x = idAt ids (0 + (x 0).val)) :
    InOK ids 0 ((inV).view.writes (Elt F) f [⟨Rect.unit (s := S31304) ![8] S31296.size inb8, w⟩, ⟨Rect.unit (s := S31304) ![0] S16.size inb0, k0_pay11⟩]) := by
  intro n hn hm
  unfold strm
  by_cases h8 : n < 8
  · rw [if_pos (by omega), buf_miss (F := F) f 8 _ inb8 _ _ n h8]
    exact buf_hit (F := F) f 0 _ inb0 _ [] (fun _ => 4294967295#32) (fun _ => rfl) n (Nat.zero_le _) (show n < 0 + 16 by omega)
  · rw [if_neg (by omega), buf_hit (F := F) f 8 _ inb8 w _ (fun x => idAt ids (0 + x)) hw n (by omega) (show n < 8 + 31296 by omega)]
    exact congrArg (idAt ids) (by omega)

theorem inOK_later (ids : S1000000.Idx → BitVec 32) (f : S31304.Idx → BitVec 32) (sz : Fin 1 → ℕ) (wn o : ℕ) (inb : ∀ a : Fin 1, (![0] : Fin 1 → ℕ) a + sz a ≤ S31304.size a)
    (w : (Rect.unit (s := S31304) ![0] sz inb).shape.Idx → BitVec 32) (hw : ∀ x, w x = idAt ids (o + (x 0).val)) (ho : o = 31296 * wn - 8) (hwn : wn ≠ 0)
    (hsz : sz 0 = 31304 ∨ (sz 0 = 29832 ∧ wn = 31)) :
    InOK ids wn ((inV).view.writes (Elt F) f [⟨Rect.unit (s := S31304) ![0] sz inb, w⟩]) := by
  intro n hn hm
  unfold strm
  rw [if_neg (by omega), buf_hit (F := F) f 0 _ inb w [] (fun x => idAt ids (o + x)) hw n (Nat.zero_le _) (by omega)]
  exact congrArg (idAt ids) (by omega)

theorem mp_words (fmp : S16.Idx → BitVec 32) (w : S16.Idx → BitVec 32) (inb : ∀ a : Fin 1, (![0] : Fin 1 → ℕ) a + S16.size a ≤ S16.size a) (mp : BitVec 32)
    (hw : ∀ x, w x = mp) (x : S16.Idx) :
    (mpV).view.readAt (Elt F) (Rect.unit (s := S16) ![0] S16.size inb).toLoadRect (View.write (Elt F) (mpV).view fmp w Finset.univ) x = mp := by
  rw [View.write_whole_univ, View.readAt_apply]
  exact hw _

/-! ## The pieces of the copies -/

/-- A delivered copy: the destination's elements written with what the source held, the source back. -/
abbrev del {sp sp' : Space} {s : Shape} (dst : Memref sig .scVector sp' s .i32) (src : Memref sig .scVector sp s .i32)
    (fd : Buf (Elt F) (dst.view.loc (thr d L))) (fs : Buf (Elt F) (src.view.loc (thr d L))) : sProp 𝕄 :=
  iprop((dst.view.loc (thr d L) ↦[dst.view.set]{fullShare} dst.view.writes (Elt F) fd [⟨Rect.whole s, ReadAs.same.apply (src.view.read (Elt F) fs)⟩])
    ∗ (src.view.loc (thr d L) ↦[src.view.set]{fullShare} fs))

/-- Four deliveries of one batch. -/
abbrev four (A B C D : sProp 𝕄) : Fin 4 → sProp 𝕄 := fun t => match t with | 0 => A | 1 => B | 2 => C | 3 => D

theorem four_storable (A B C D : sProp 𝕄) [hA : BI.Storable (upEmb : UEmb _ 𝕄) A] [hB : BI.Storable (upEmb : UEmb _ 𝕄) B] [hC : BI.Storable (upEmb : UEmb _ 𝕄) C]
    [hD : BI.Storable (upEmb : UEmb _ 𝕄) D] : ∀ t, BI.Storable (upEmb : UEmb _ 𝕄) (four A B C D t)
  | 0 => hA | 1 => hB | 2 => hC | 3 => hD

abbrev row (m : Memref sig .scVector .vmem S4x10440 .i32) (o : Fin 2 → ℕ) (inb : ∀ a : Fin 2, o a + S1x10432.size a ≤ S4x10440.size a) : Memref sig .scVector .vmem S10432 .i32 :=
  (m.slice (Rect.unit (s := S4x10440) o S1x10432.size inb) (fun _ => rfl)).squeeze S10432 squeezes_S1x10432_S10432
abbrev rowT (m : Memref sig .scVector .vmem S4x10440 .i32) (o : Fin 2 → ℕ) (inb : ∀ a : Fin 2, o a + S1x8960.size a ≤ S4x10440.size a) : Memref sig .scVector .vmem S8960 .i32 :=
  (m.slice (Rect.unit (s := S4x10440) o S1x8960.size inb) (fun _ => rfl)).squeeze S8960 squeezes_S1x8960_S8960
abbrev row0 (m : Memref sig .scVector .vmem S4x10440 .i32) := row m ![0, 0] inb_S4x10440_S1x10432_0_0
abbrev row1 (m : Memref sig .scVector .vmem S4x10440 .i32) := row m ![1, 0] inb_S4x10440_S1x10432_1_0
abbrev row2 (m : Memref sig .scVector .vmem S4x10440 .i32) := row m ![2, 0] inb_S4x10440_S1x10432_2_0
abbrev row3 (m : Memref sig .scVector .vmem S4x10440 .i32) := row m ![3, 0] inb_S4x10440_S1x10432_3_0
abbrev tow0 (m : Memref sig .scVector .vmem S4x10440 .i32) := rowT m ![0, 0] inb_S4x10440_S1x8960_0_0
abbrev tow1 (m : Memref sig .scVector .vmem S4x10440 .i32) := rowT m ![1, 0] inb_S4x10440_S1x8960_1_0
abbrev tow2 (m : Memref sig .scVector .vmem S4x10440 .i32) := rowT m ![2, 0] inb_S4x10440_S1x8960_2_0
abbrev tow3 (m : Memref sig .scVector .vmem S4x10440 .i32) := rowT m ![3, 0] inb_S4x10440_S1x8960_3_0

abbrev dst (off : Fin 2 → ℕ) (inb : ∀ a : Fin 2, off a + S1x10432.size a ≤ S4x1000000.size a) : Memref sig .scVector .hbm S10432 .i32 :=
  ((oV).slice (Rect.unit (s := S4x1000000) off S1x10432.size inb) (fun _ => rfl)).squeeze S10432 squeezes_S1x10432_S10432
abbrev dstT (off : Fin 2 → ℕ) (inb : ∀ a : Fin 2, off a + S1x8960.size a ≤ S4x1000000.size a) : Memref sig .scVector .hbm S8960 .i32 :=
  ((oV).slice (Rect.unit (s := S4x1000000) off S1x8960.size inb) (fun _ => rfl)).squeeze S8960 squeezes_S1x8960_S8960

/-- Row `r`, columns below `n`, of a planes' scratch. -/
def rset (r n : ℕ) : Finset S4x10440.Idx := Finset.univ.filter fun p => (p 0).val = r ∧ (p 1).val < n
theorem mem_rset {r n : ℕ} {p : S4x10440.Idx} : p ∈ rset r n ↔ (p 0).val = r ∧ (p 1).val < n := by simp [rset]

theorem rset_unit (n r : ℕ) (size : Fin 2 → ℕ) (inb : ∀ a : Fin 2, (![r, 0] : Fin 2 → ℕ) a + size a ≤ S4x10440.size a) (hs : size = ![1, n]) :
    (Rect.unit (s := S4x10440) ![r, 0] size inb).set = rset r n := by
  subst hs
  ext p
  rw [Rect.mem_set_unit, mem_rset]
  constructor
  · intro h
    have h0 := h 0
    have h2 := h 1
    simp only [Matrix.cons_val_zero, Matrix.cons_val_one] at h0 h2
    omega
  · intro h a
    match a with
    | 0 => show r ≤ (p 0).val ∧ (p 0).val < r + 1; omega
    | 1 => show 0 ≤ (p 1).val ∧ (p 1).val < 0 + n; omega

theorem rset_disjoint (r r' n : ℕ) (h : r ≠ r') : Disjoint (rset r n) (rset r' n) :=
  Finset.disjoint_left.mpr fun p hp hp' => h ((mem_rset.mp hp).1.symm.trans (mem_rset.mp hp').1)

/-- A buffer held whole is four disjoint parts of it and what is left. -/
theorem split4 {ℓ : Loc nD τ sig} (q : PosShare TreeShare) (f : Buf (Elt F) ℓ) (A B C E : Finset (Idx ℓ)) (hAB : Disjoint A B) (hAC : Disjoint A C) (hAE : Disjoint A E)
    (hBC : Disjoint B C) (hBE : Disjoint B E) (hCE : Disjoint C E) :
    (ℓ ↦{q} f : sProp 𝕄) = iprop((ℓ ↦[A]{q} f) ∗ (ℓ ↦[B]{q} f) ∗ (ℓ ↦[C]{q} f) ∗ (ℓ ↦[E]{q} f) ∗ ℓ ↦[(((Finset.univ \ A) \ B) \ C) \ E]{q} f) := by
  have e : ∀ {I J : Finset (Idx ℓ)}, I ⊆ J → (ℓ ↦[J]{q} f : sProp 𝕄) = iprop((ℓ ↦[I]{q} f) ∗ ℓ ↦[J \ I]{q} f) := fun h =>
    BI.Entails.antisymm (pointsTo_split_subset h).1 (pointsTo_split_subset h).2
  have sub : ∀ {I J A : Finset (Idx ℓ)}, I ⊆ J → Disjoint A I → I ⊆ J \ A := fun h hd x hx =>
    Finset.mem_sdiff.mpr ⟨h hx, fun hA => Finset.disjoint_left.mp hd hA hx⟩
  rw [e (Finset.subset_univ A), e (sub (Finset.subset_univ B) hAB), e (sub (sub (Finset.subset_univ C) hAC) hBC), e (sub (sub (sub (Finset.subset_univ E) hAE) hBE) hCE)]

theorem rowA_set (n r : ℕ) (size : Fin 2 → ℕ) (inb : ∀ a : Fin 2, (![r, 0] : Fin 2 → ℕ) a + size a ≤ S4x10440.size a) (s : Shape)
    (hn : s.numel = (Rect.unit (s := S4x10440) ![r, 0] size inb).shape.numel) (hs : size = ![1, n]) :
    (((aV).view.slice (Rect.unit (s := S4x10440) ![r, 0] size inb)).reshape s hn).set = rset r n := by
  rw [View.set_reshape, View.set_slice]
  exact Finset.map_refl.trans (rset_unit n r size inb hs)
theorem rowB_set (n r : ℕ) (size : Fin 2 → ℕ) (inb : ∀ a : Fin 2, (![r, 0] : Fin 2 → ℕ) a + size a ≤ S4x10440.size a) (s : Shape)
    (hn : s.numel = (Rect.unit (s := S4x10440) ![r, 0] size inb).shape.numel) (hs : size = ![1, n]) :
    (((bV).view.slice (Rect.unit (s := S4x10440) ![r, 0] size inb)).reshape s hn).set = rset r n := by
  rw [View.set_reshape, View.set_slice]
  exact Finset.map_refl.trans (rset_unit n r size inb hs)

/-- What the rows of a scratch leave of it. -/
abbrev restSet (n : ℕ) : Finset S4x10440.Idx := (((Finset.univ \ rset 0 n) \ rset 1 n) \ rset 2 n) \ rset 3 n

/-- A scratch held by its four source rows and the rest. -/
theorem aPts_rows (f : Buf (Elt F) ((aV).view.loc (thr d L))) :
    (aPts d L f : sProp 𝕄) = iprop(((row0 aV).view.loc (thr d L) ↦[(row0 aV).view.set]{fullShare} f) ∗ ((row1 aV).view.loc (thr d L) ↦[(row1 aV).view.set]{fullShare} f)
      ∗ ((row2 aV).view.loc (thr d L) ↦[(row2 aV).view.set]{fullShare} f) ∗ ((row3 aV).view.loc (thr d L) ↦[(row3 aV).view.set]{fullShare} f)
      ∗ ((aV).view.loc (thr d L) ↦[restSet 10432]{fullShare} f)) := by
  have e : ∀ r inb, (row aV ![r, 0] inb).view.set = rset r 10432 := fun r inb => rowA_set 10432 r _ inb _ _ rfl
  rw [e, e, e, e]
  exact split4 _ f _ _ _ _ (rset_disjoint _ _ _ (by decide)) (rset_disjoint _ _ _ (by decide)) (rset_disjoint _ _ _ (by decide)) (rset_disjoint _ _ _ (by decide))
    (rset_disjoint _ _ _ (by decide)) (rset_disjoint _ _ _ (by decide))
theorem aPts_tows (f : Buf (Elt F) ((aV).view.loc (thr d L))) :
    (aPts d L f : sProp 𝕄) = iprop(((tow0 aV).view.loc (thr d L) ↦[(tow0 aV).view.set]{fullShare} f) ∗ ((tow1 aV).view.loc (thr d L) ↦[(tow1 aV).view.set]{fullShare} f)
      ∗ ((tow2 aV).view.loc (thr d L) ↦[(tow2 aV).view.set]{fullShare} f) ∗ ((tow3 aV).view.loc (thr d L) ↦[(tow3 aV).view.set]{fullShare} f)
      ∗ ((aV).view.loc (thr d L) ↦[restSet 8960]{fullShare} f)) := by
  have e : ∀ r inb, (rowT aV ![r, 0] inb).view.set = rset r 8960 := fun r inb => rowA_set 8960 r _ inb _ _ rfl
  rw [e, e, e, e]
  exact split4 _ f _ _ _ _ (rset_disjoint _ _ _ (by decide)) (rset_disjoint _ _ _ (by decide)) (rset_disjoint _ _ _ (by decide)) (rset_disjoint _ _ _ (by decide))
    (rset_disjoint _ _ _ (by decide)) (rset_disjoint _ _ _ (by decide))
theorem bPts_rows (f : Buf (Elt F) ((bV).view.loc (thr d L))) :
    (bPts d L f : sProp 𝕄) = iprop(((row0 bV).view.loc (thr d L) ↦[(row0 bV).view.set]{fullShare} f) ∗ ((row1 bV).view.loc (thr d L) ↦[(row1 bV).view.set]{fullShare} f)
      ∗ ((row2 bV).view.loc (thr d L) ↦[(row2 bV).view.set]{fullShare} f) ∗ ((row3 bV).view.loc (thr d L) ↦[(row3 bV).view.set]{fullShare} f)
      ∗ ((bV).view.loc (thr d L) ↦[restSet 10432]{fullShare} f)) := by
  have e : ∀ r inb, (row bV ![r, 0] inb).view.set = rset r 10432 := fun r inb => rowB_set 10432 r _ inb _ _ rfl
  rw [e, e, e, e]
  exact split4 _ f _ _ _ _ (rset_disjoint _ _ _ (by decide)) (rset_disjoint _ _ _ (by decide)) (rset_disjoint _ _ _ (by decide)) (rset_disjoint _ _ _ (by decide))
    (rset_disjoint _ _ _ (by decide)) (rset_disjoint _ _ _ (by decide))

/-- A piece of the planes' array, as a copy addresses it. -/
theorem dst_pts (off : Fin 2 → ℕ) (inb : ∀ a : Fin 2, off a + S1x10432.size a ≤ S4x1000000.size a) (k f : ℕ) (ho : off = ![f, 10432 * k]) (hk : k < 95)
    (g : Buf (Elt F) (oLoc d)) :
    ((dst off inb).view.loc (thr d L) ↦[(dst off inb).view.set]{fullShare} g : sProp 𝕄) = oLoc d ↦[pset k f]{fullShare} g := by
  rw [set_full off inb k f ho hk]
theorem dstT_pts (off : Fin 2 → ℕ) (inb : ∀ a : Fin 2, off a + S1x8960.size a ≤ S4x1000000.size a) (f : ℕ) (ho : off = ![f, 10432 * 95])
    (g : Buf (Elt F) (oLoc d)) :
    ((dstT off inb).view.loc (thr d L) ↦[(dstT off inb).view.set]{fullShare} g : sProp 𝕄) = oLoc d ↦[pset 95 f]{fullShare} g := by
  rw [set_tail off inb f ho]

/-- A plane's row copied to its piece leaves there what the piece must hold. -/
theorem landed_at (s : Shape) (sz off : Fin 2 → ℕ) (n j w k f : ℕ) (inb : ∀ a : Fin 2, off a + sz a ≤ S4x1000000.size a)
    (inb' : ∀ a : Fin 2, (![f, 0] : Fin 2 → ℕ) a + sz a ≤ S4x10440.size a)
    (hn : s.numel = (Rect.unit (s := S4x1000000) off sz inb).shape.numel) (hn' : s.numel = (Rect.unit (s := S4x10440) ![f, 0] sz inb').shape.numel)
    (rv : View sig .scVector .vmem S4x10440 .i32) (fo : rv.ty.Contents (Elt F)) (fd : S4x1000000.Idx → BitVec 32)
    (hsz : sz = ![1, n]) (ho : off = ![f, 10432 * k]) (hk : k = 3 * w + j) (hj : j < 3) (hle : n ≤ 10432) (g : S31304.Idx → BitVec 32)
    (hd : Done (mpW m d) g (10432 * j) n (rv.read (Elt F) fo)) (hg : InOK (m (iLoc d)) w g) (p : S4x1000000.Idx)
    (hp : p ∈ (((oV).view.slice (Rect.unit (s := S4x1000000) off sz inb)).reshape s hn).set) :
    (((oV).view.slice (Rect.unit (s := S4x1000000) off sz inb)).reshape s hn).writes (Elt F) fd
      [⟨Rect.whole s, ReadAs.same.apply ((((rv.slice (Rect.unit (s := S4x10440) ![f, 0] sz inb')).reshape s hn').read (Elt F) fo))⟩] p = G m d p := by
  subst hsz ho
  obtain ⟨x, -, rfl⟩ := Finset.mem_map.mp hp
  have h := congrFun (View.read_writes_whole (((oV).view.slice (Rect.unit (s := S4x1000000) ![f, 10432 * k] ![1, n] inb)).reshape s hn) fd
    (ReadAs.same.apply ((((rv.slice (Rect.unit (s := S4x10440) ![f, 0] ![1, n] inb')).reshape s hn').read (Elt F) fo)))) x
  refine h.trans ?_
  generalize hy : (Shape.reshapeEquiv hn x : (⟨2, ![1, n]⟩ : Shape).Idx) = y
  have hy0 : (y 0).val = 0 := by have : (y 0).val < 1 := (y 0).isLt; omega
  have hy1 : (y 1).val < n := (y 1).isLt
  have hb : 10432 * k + n ≤ 1000000 := inb 1
  have hb' : 0 + n ≤ 10440 := inb' 1
  have hf : f + 1 ≤ 4 := inb 0
  let z : S4x10440.Idx := (Rect.unit (s := S4x10440) ![f, 0] ![1, n] inb').emb (show (⟨2, ![1, n]⟩ : Shape).Idx from y)
  have hz0 : (z 0).val = f := by show f + 1 * (y 0).val = f; omega
  have hz1 : (z 1).val = (y 1).val := by show 0 + 1 * (y 1).val = _; omega
  have hl : (((rv.slice (Rect.unit (s := S4x10440) ![f, 0] ![1, n] inb')).reshape s hn').read (Elt F) fo) x = rv.read (Elt F) fo z := by
    show rv.read (Elt F) fo ((Rect.unit (s := S4x10440) ![f, 0] ![1, n] inb').emb (Shape.reshapeEquiv hn x : (⟨2, ![1, n]⟩ : Shape).Idx)) = _
    rw [hy]
  let q : S4x1000000.Idx := (Rect.unit (s := S4x1000000) ![f, 10432 * k] ![1, n] inb).emb (show (⟨2, ![1, n]⟩ : Shape).Idx from y)
  have hq0 : (q 0).val = f := by show f + 1 * (y 0).val = f; omega
  have hq1 : (q 1).val = 10432 * k + (y 1).val := by show 10432 * k + 1 * (y 1).val = _; omega
  have hr : (((oV).view.slice (Rect.unit (s := S4x1000000) ![f, 10432 * k] ![1, n] inb)).reshape s hn).emb x = q := by
    show (Rect.unit (s := S4x1000000) ![f, 10432 * k] ![1, n] inb).emb (Shape.reshapeEquiv hn x : (⟨2, ![1, n]⟩ : Shape).Idx) = _
    rw [hy]
  refine Eq.trans hl ?_
  rw [hd z (by omega)]
  refine Eq.trans ?_ (congrArg (G m d) hr).symm
  show _ = cell (mpW m d) (strm (m (iLoc d)) ((q 1).val + 8)) (strm (m (iLoc d)) ((q 1).val + 7)) (q 0).val
  rw [hz0, hz1, hq0, hq1, hg _ (by omega) (by omega), hg _ (by omega) (by omega)]
  congr 2 <;> omega

/-! ## The copies out, a batch of four to a chunk -/

/-- What the four copies of chunk 0 hand back. -/
abbrev delivA (fs : Buf (Elt F) ((aV).view.loc (thr d L))) : Fin 4 → sProp 𝕄 :=
  four (del d L (dst (k0_off8 L 0#32) (k0_off8_inb L 0)) (row0 aV) (m (oLoc d)) fs) (del d L (dst (k0_off9 L 0#32) (k0_off9_inb L 0)) (row1 aV) (m (oLoc d)) fs)
    (del d L (dst (k0_off10 L 0#32) (k0_off10_inb L 0)) (row2 aV) (m (oLoc d)) fs) (del d L (dst (k0_off11 L 0#32) (k0_off11_inb L 0)) (row3 aV) (m (oLoc d)) fs)
/-- What the four copies of chunk 1 hand back. -/
abbrev delivB (fs : Buf (Elt F) ((bV).view.loc (thr d L))) : Fin 4 → sProp 𝕄 :=
  four (del d L (dst (k0_off8 L 10432#32) (k0_off8_inb L 1)) (row0 bV) (m (oLoc d)) fs) (del d L (dst (k0_off9 L 10432#32) (k0_off9_inb L 1)) (row1 bV) (m (oLoc d)) fs)
    (del d L (dst (k0_off10 L 10432#32) (k0_off10_inb L 1)) (row2 bV) (m (oLoc d)) fs) (del d L (dst (k0_off11 L 10432#32) (k0_off11_inb L 1)) (row3 bV) (m (oLoc d)) fs)

instance (fs : Buf (Elt F) ((aV).view.loc (thr d L))) : ∀ t, BI.Storable (upEmb : UEmb _ 𝕄) (delivA m d L fs t) := four_storable _ _ _ _
instance (fs : Buf (Elt F) ((bV).view.loc (thr d L))) : ∀ t, BI.Storable (upEmb : UEmb _ 𝕄) (delivB m d L fs t) := four_storable _ _ _ _

/-- A piece of the planes' array, held as a copy addresses it. -/
abbrev pts {s : Shape} (v : Memref sig .scVector .hbm s .i32) (g : Buf (Elt F) (v.view.loc (thr d L))) : sProp 𝕄 := v.view.loc (thr d L) ↦[v.view.set]{fullShare} g

/-- The bytes of one plane's copy. -/
abbrev nA : ℕ := 333824
abbrev nB : ℕ := 333824

set_option maxHeartbeats 2000000 in
/-- Chunk 0 computed, its first plane's copy issued. -/
theorem first_chunk (O : CellTallies nD τ sig (HIx 1)) (W W₀ : Waits sig (HIx 1)) (hW : ∀ p ∈ W₀, p ∈ W ∨ p.2 = none) (g : Buf (Elt F) ((inV).view.loc (thr d L)))
    (v1 v5 : BitVec 32) (v2 : Vec F S16 .i32) (hmp : ∀ x : S16.Idx, v2 x = mpW m d) :
    iprop(inPts d L g ∗ (∃ f, aPts d L f) ∗ semVal (dcell (thr d L) cc0_scratch4) 0 ∗ owes (thr d L) O W₀
        ∗ pts d L (dst (k0_off8 L 0#32) (k0_off8_inb L 0)) (m (oLoc d)))
      ⊢ wp frame (wpE (defs₀ (F := F)) 𝒱₀ (thr d L) none) Set.univ
          (do
            Scf.Loop.for k0_t1_loop k0_t1_ok ⟨⟩ (k0_t1_body L iV (Memref.isWhole_whole _) pV (Memref.isWhole_whole _) oV (Memref.isWhole_whole _) inV (Memref.isWhole_whole _)
              mpV (Memref.isWhole_whole _) aV (Memref.isWhole_whole _) bV (Memref.isWhole_whole _) cc0_scratch4 cc0_scratch5 cc0_scratch6
              cc0_scoped0 cc0_scoped1 cc0_scoped2 cc0_scoped3 v2)
            Prog.lift (.enqueueDma (row0 aV) (.here (dst (k0_off8 L 0#32) (k0_off8_inb L 0))) (.dma cc0_scratch4.sem) ((View.wordExact_bits rfl).reshape _ _) ((View.wordExact_bits rfl).reshape _ _) ⟨Or.inl rfl, trivial⟩)
            pure (⟨v1, v2, k0_pay9, k0_pay10, v5⟩ : Σ' (_ : BitVec 32) (_ : Vec F S16 .i32) (_ : IVec S16 32) (_ : IVec S16 32), BitVec 32))
          fun r => iprop(⌜∃ v1 v2 v5, r = ⟨v1, v2, k0_pay9, k0_pay10, v5⟩ ∧ ∀ x : S16.Idx, v2 x = mpW m d⌝ ∗ inPts d L g ∗ owesW d L O W
            ∗ ∃ fo, ⌜Done (mpW m d) g 0 10432 fo⌝ ∗ Transfers.Batch countersEmb (thr d L) (.dma cc0_scratch4.sem) (default : HIx 1) nA (delivA m d L fo) 1 0
              ∗ ((row1 aV).view.loc (thr d L) ↦[(row1 aV).view.set]{fullShare} fo) ∗ ((row2 aV).view.loc (thr d L) ↦[(row2 aV).view.set]{fullShare} fo)
              ∗ ((row3 aV).view.loc (thr d L) ↦[(row3 aV).view.set]{fullShare} fo) ∗ ((aV).view.loc (thr d L) ↦[restSet 10432]{fullShare} fo)) := by
  iintro ⟨Hin, Ha, HsA, HO, HD⟩
  sl_for (fun k (_ : PUnit) => iprop(inPts d L g ∗ ∃ fo, ⌜Done (mpW m d) g 0 (16 * k) fo⌝ ∗ aPts d L fo)) $$ [Hin Ha]
  case region =>
    intro k _
    exact trip1 d L v2 (mpW m d) hmp k g
  · isplitl [Hin]; · iexact Hin
    icases Ha with ⟨%f, Ha⟩
    iexists f
    isplitr
    · ipureintro; exact Done.zero _ _ _ _
    · iexact Ha
  iintro %_ HI
  icases HI with ⟨Hin, %fo, %hd, Ha⟩
  ihave Ha := (Entails.of_eq (aPts_rows d L fo)) $$ Ha
  icases Ha with ⟨Ha0, Ha1, Ha2, Ha3, Har⟩
  imod (Transfers.batch_alloc' (Lvl := ℕ) countersEmb (thr d L) (default : HIx 1) nA (delivA m d L fo) (sm := .dma cc0_scratch4.sem) (E := Set.univ)) $$ HsA with HB
  sl_exec
  sl_step
  isplitr
  · ipureintro; exact ⟨_, _, _, rfl, hmp⟩
  isplitl [Hin]; · iexact Hin
  isplitl [HO]
  · iexists W₀
    isplitr
    · ipureintro; exact hW
    · iexact HO
  iexists fo
  isplitr
  · ipureintro; exact hd
  isplitl [HB]; · iexact HB
  isplitl [Ha1]; · iexact Ha1
  isplitl [Ha2]; · iexact Ha2
  isplitl [Ha3]; · iexact Ha3
  iexact Har

/-- What a task holds after its window's fill and chunk 0's first copy. -/
abbrev after3 (O : CellTallies nD τ sig (HIx 1)) (W : Waits sig (HIx 1)) (g : Buf (Elt F) ((inV).view.loc (thr d L)))
    (r : Σ' (_ : BitVec 32) (_ : Vec F S16 .i32) (_ : IVec S16 32) (_ : IVec S16 32), BitVec 32) : sProp 𝕄 :=
  iprop(⌜∃ v1 v2 v5, r = ⟨v1, v2, k0_pay9, k0_pay10, v5⟩ ∧ ∀ x : S16.Idx, v2 x = mpW m d⌝ ∗ inPts d L g ∗ owesW d L O W
    ∗ ∃ fo, ⌜Done (mpW m d) g 0 10432 fo⌝ ∗ Transfers.Batch countersEmb (thr d L) (.dma cc0_scratch4.sem) (default : HIx 1) nA (delivA m d L fo) 1 0
      ∗ ((row1 aV).view.loc (thr d L) ↦[(row1 aV).view.set]{fullShare} fo) ∗ ((row2 aV).view.loc (thr d L) ↦[(row2 aV).view.set]{fullShare} fo)
      ∗ ((row3 aV).view.loc (thr d L) ↦[(row3 aV).view.set]{fullShare} fo) ∗ ((aV).view.loc (thr d L) ↦[restSet 10432]{fullShare} fo))

set_option maxHeartbeats 4000000 in
theorem part3_run (O : CellTallies nD τ sig (HIx 1)) (W : Waits sig (HIx 1)) (fin0 : Buf (Elt F) ((inV).view.loc (thr d L))) :
    iprop(Transfers.MayWaits (thr d L) (default : HIx 1) O ∗ ((iV).view.loc (thr d L) ↦{shr (wk L)} m (iLoc d)) ∗ ((pV).view.loc (thr d L) ↦{shr (wk L)} mpBuf m d)
        ∗ inPts d L fin0 ∗ (∃ f, (mpV).view.loc (thr d L) ↦{fullShare} f) ∗ (∃ f, aPts d L f)
        ∗ semVal (dcell (thr d L) cc0_scratch4) 0 ∗ semVal (dcell (thr d L) cc0_scoped0) 0 ∗ semVal (dcell (thr d L) cc0_scoped1) 0
        ∗ semVal (dcell (thr d L) cc0_scoped2) 0 ∗ semVal (dcell (thr d L) cc0_scoped3) 0 ∗ owes (thr d L) O W
        ∗ pts d L (dst (k0_off8 L 0#32) (k0_off8_inb L 0)) (m (oLoc d)))
      ⊢ wp frame (wpE (defs₀ (F := F)) 𝒱₀ (thr d L) none) Set.univ
          (k0_part3 L iV (Memref.isWhole_whole _) pV (Memref.isWhole_whole _) oV (Memref.isWhole_whole _) inV (Memref.isWhole_whole _)
            mpV (Memref.isWhole_whole _) aV (Memref.isWhole_whole _) bV (Memref.isWhole_whole _) cc0_scratch4 cc0_scratch5 cc0_scratch6
            cc0_scoped0 cc0_scoped1 cc0_scoped2 cc0_scoped3)
          fun r => iprop(((iV).view.loc (thr d L) ↦{shr (wk L)} m (iLoc d)) ∗ ((pV).view.loc (thr d L) ↦{shr (wk L)} mpBuf m d)
            ∗ (∃ f, (mpV).view.loc (thr d L) ↦{fullShare} f) ∗ semVal (dcell (thr d L) cc0_scoped0) 0 ∗ semVal (dcell (thr d L) cc0_scoped1) 0
            ∗ semVal (dcell (thr d L) cc0_scoped2) 0 ∗ semVal (dcell (thr d L) cc0_scoped3) 0
            ∗ ∃ g, ⌜InOK (m (iLoc d)) (wk L) g⌝ ∗ after3 m d L O W g r) := by
  rw [k0_part3_eq_skeleton]; unfold k0_part3_skel
  iintro ⟨#Hmw, Hi, Hp, Hin, ⟨%fmp, Hmp⟩, ⟨%fa, Ha⟩, HsA, Hs0, Hs1, Hs2, Hs3, HO, HD⟩
  rcases (by omega : wk L = 0 ∨ (wk L ≠ 0 ∧ wk L ≠ 31) ∨ wk L = 31) with hw | hw | hw
  · have h1 := (cond1_iff L).2 hw
    have h2 : ¬ k0_cond2 L = 1#1 := fun h => ((cond2_iff L).1 h).1 hw
    have h3 : ¬ k0_cond3 L = 1#1 := fun h => by have := (cond3_iff L).1 h; omega
    sl_exec
    iapply wp_wand $$ [Hin Ha HsA HO HD]
    · iapply (first_chunk m d L O W _ ?_ _ _ _ _ ?_) $$ [Hin Ha HsA HO HD]
      rotate_left 2
      · isplitl [Hin]; · iexact Hin
        isplitl [Ha]; · iexists fa; iexact Ha
        isplitl [HsA]; · iexact HsA
        isplitl [HO]; · iexact HO
        iexact HD
      · exact fun p hp => by
          rcases Finset.mem_insert.1 hp with rfl | hp
          · exact .inr rfl
          · rcases Finset.mem_insert.1 hp with rfl | hp
            · exact .inr rfl
            · exact .inl hp
      · exact fun x => mp_words _ _ _ _ (fun y => mpBuf_apply m d y) x
    iintro %r H
    isplitl [Hi]; · iexact Hi
    isplitl [Hp]; · iexact Hp
    isplitl [Hmp]; · iexists _; iexact Hmp
    isplitl [Hs0]; · iexact Hs0
    isplitl [Hs1]; · iexact Hs1
    isplitl [Hs2]; · iexact Hs2
    isplitl [Hs3]; · iexact Hs3
    iexists _
    isplitr
    rotate_left
    · iexact H
    ipureintro
    rw [hw]
    exact inOK_first (m (iLoc d)) _ _ _ _ fun x => src_word (F := F) (m (iLoc d)) ![0] S31296.size inb_S1000000_S31296_0 (fun _ => rfl) x
  · have h1 : ¬ _ := fun h => hw.1 ((cond1_iff L).1 h)
    have h2 := (cond2_iff L).2 hw
    have h3 : ¬ k0_cond3 L = 1#1 := fun h => by have := (cond3_iff L).1 h; omega
    sl_exec
    iapply wp_wand $$ [Hin Ha HsA HO HD]
    · iapply (first_chunk m d L O W _ ?_ _ _ _ _ ?_) $$ [Hin Ha HsA HO HD]
      rotate_left 2
      · isplitl [Hin]; · iexact Hin
        isplitl [Ha]; · iexists fa; iexact Ha
        isplitl [HsA]; · iexact HsA
        isplitl [HO]; · iexact HO
        iexact HD
      · exact fun p hp => by
          rcases Finset.mem_insert.1 hp with rfl | hp
          · exact .inr rfl
          · rcases Finset.mem_insert.1 hp with rfl | hp
            · exact .inr rfl
            · exact .inl hp
      · exact fun x => mp_words _ _ _ _ (fun y => mpBuf_apply m d y) x
    iintro %r H
    isplitl [Hi]; · iexact Hi
    isplitl [Hp]; · iexact Hp
    isplitl [Hmp]; · iexists _; iexact Hmp
    isplitl [Hs0]; · iexact Hs0
    isplitl [Hs1]; · iexact Hs1
    isplitl [Hs2]; · iexact Hs2
    isplitl [Hs3]; · iexact Hs3
    iexists _
    isplitr
    rotate_left
    · iexact H
    ipureintro
    exact inOK_later (m (iLoc d)) _ _ _ (k0_off1 L 0) _ _ (fun x => src_word (F := F) (m (iLoc d)) (k0_off1 L) S31304.size (k0_off1_inb L h2) (fun _ => rfl) x) (off1_eq L h2) hw.1 (.inl rfl)
  · have h1 : ¬ _ := fun h => by have := (cond1_iff L).1 h; omega
    have h2 : ¬ k0_cond2 L = 1#1 := fun h => ((cond2_iff L).1 h).2 hw
    have h3 := (cond3_iff L).2 hw
    sl_exec
    iapply wp_wand $$ [Hin Ha HsA HO HD]
    · iapply (first_chunk m d L O W _ ?_ _ _ _ _ ?_) $$ [Hin Ha HsA HO HD]
      rotate_left 2
      · isplitl [Hin]; · iexact Hin
        isplitl [Ha]; · iexists fa; iexact Ha
        isplitl [HsA]; · iexact HsA
        isplitl [HO]; · iexact HO
        iexact HD
      · exact fun p hp => by
          rcases Finset.mem_insert.1 hp with rfl | hp
          · exact .inr rfl
          · rcases Finset.mem_insert.1 hp with rfl | hp
            · exact .inr rfl
            · exact .inl hp
      · exact fun x => mp_words _ _ _ _ (fun y => mpBuf_apply m d y) x
    iintro %r H
    isplitl [Hi]; · iexact Hi
    isplitl [Hp]; · iexact Hp
    isplitl [Hmp]; · iexists _; iexact Hmp
    isplitl [Hs0]; · iexact Hs0
    isplitl [Hs1]; · iexact Hs1
    isplitl [Hs2]; · iexact Hs2
    isplitl [Hs3]; · iexact Hs3
    iexists _
    isplitr
    rotate_left
    · iexact H
    ipureintro
    exact inOK_later (m (iLoc d)) _ _ _ (k0_off2 L 0) _ _ (fun x => src_word (F := F) (m (iLoc d)) (k0_off2 L) S29832.size (k0_off2_inb L h3) (fun _ => rfl) x) (off2_eq L h3) (by omega) (.inr ⟨rfl, hw⟩)

end Cert.Proof.Para

end
-- ==== Proof.Body.lean ====
/-
  The whole task: its three chunks computed and copied out plane by plane.
-/
module

public import proofs.«01_k».proof.Proof.Tile

@[expose] public section

noncomputable section

namespace Cert.Proof.Para

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## A chunk as its four copies address it, before and after -/

theorem chunk_dst (o0 o1 o2 o3 : Fin 2 → ℕ) (i0 : ∀ a : Fin 2, o0 a + S1x10432.size a ≤ S4x1000000.size a) (i1 : ∀ a : Fin 2, o1 a + S1x10432.size a ≤ S4x1000000.size a)
    (i2 : ∀ a : Fin 2, o2 a + S1x10432.size a ≤ S4x1000000.size a) (i3 : ∀ a : Fin 2, o3 a + S1x10432.size a ≤ S4x1000000.size a) (k : ℕ) (hk : k < 95)
    (h0 : o0 = ![0, 10432 * k]) (h1 : o1 = ![1, 10432 * k]) (h2 : o2 = ![2, 10432 * k]) (h3 : o3 = ![3, 10432 * k]) (g : Buf (Elt F) (oLoc d)) :
    (chunk d k g : sProp 𝕄) = iprop(pts d L (dst o0 i0) g ∗ pts d L (dst o1 i1) g ∗ pts d L (dst o2 i2) g ∗ pts d L (dst o3 i3) g) := by
  unfold chunk
  rw [← dst_pts d L o0 i0 k 0 h0 hk, ← dst_pts d L o1 i1 k 1 h1 hk, ← dst_pts d L o2 i2 k 2 h2 hk, ← dst_pts d L o3 i3 k 3 h3 hk]

theorem chunk_dstT (o0 o1 o2 o3 : Fin 2 → ℕ) (i0 : ∀ a : Fin 2, o0 a + S1x8960.size a ≤ S4x1000000.size a) (i1 : ∀ a : Fin 2, o1 a + S1x8960.size a ≤ S4x1000000.size a)
    (i2 : ∀ a : Fin 2, o2 a + S1x8960.size a ≤ S4x1000000.size a) (i3 : ∀ a : Fin 2, o3 a + S1x8960.size a ≤ S4x1000000.size a)
    (h0 : o0 = ![0, 10432 * 95]) (h1 : o1 = ![1, 10432 * 95]) (h2 : o2 = ![2, 10432 * 95]) (h3 : o3 = ![3, 10432 * 95]) (g : Buf (Elt F) (oLoc d)) :
    (chunk d 95 g : sProp 𝕄) = iprop(pts d L (dstT o0 i0) g ∗ pts d L (dstT o1 i1) g ∗ pts d L (dstT o2 i2) g ∗ pts d L (dstT o3 i3) g) := by
  unfold chunk
  rw [← dstT_pts d L o0 i0 0 h0, ← dstT_pts d L o1 i1 1 h1, ← dstT_pts d L o2 i2 2 h2, ← dstT_pts d L o3 i3 3 h3]

/-- A row's copy, landed, leaves its piece at what it must hold. -/
theorem land (mm : Memref sig .scVector .vmem S4x10440 .i32) (off : Fin 2 → ℕ) (inb : ∀ a : Fin 2, off a + S1x10432.size a ≤ S4x1000000.size a) (f j k : ℕ)
    (inb' : ∀ a : Fin 2, (![f, 0] : Fin 2 → ℕ) a + S1x10432.size a ≤ S4x10440.size a) (fo : mm.view.ty.Contents (Elt F)) (g : S31304.Idx → BitVec 32)
    (ho : off = ![f, 10432 * k]) (hk : k = 3 * wk L + j) (hj : j < 3) (hk' : k < 95)
    (hd : Done (mpW m d) g (10432 * j) 10432 (mm.view.read (Elt F) fo)) (hg : InOK (m (iLoc d)) (wk L) g) (fd : Buf (Elt F) (oLoc d)) :
    (pts d L (dst off inb) ((dst off inb).view.writes (Elt F) fd [⟨Rect.whole S10432, ReadAs.same.apply ((row mm ![f, 0] inb').view.read (Elt F) fo)⟩]) : sProp 𝕄)
      = oLoc d ↦[pset k f]{fullShare} G m d := by
  rw [← dst_pts d L off inb k f ho hk']
  exact pointsTo_congr fun p hp => landed_at m d S10432 S1x10432.size off 10432 j (wk L) k f inb inb' squeezes_S1x10432_S10432.numel_eq squeezes_S1x10432_S10432.numel_eq
    mm.view fo fd rfl ho hk hj (Nat.le_refl _) g hd hg p hp

theorem landT (mm : Memref sig .scVector .vmem S4x10440 .i32) (off : Fin 2 → ℕ) (inb : ∀ a : Fin 2, off a + S1x8960.size a ≤ S4x1000000.size a) (f : ℕ)
    (inb' : ∀ a : Fin 2, (![f, 0] : Fin 2 → ℕ) a + S1x8960.size a ≤ S4x10440.size a) (fo : mm.view.ty.Contents (Elt F)) (g : S31304.Idx → BitVec 32)
    (ho : off = ![f, 10432 * 95]) (hw : wk L = 31)
    (hd : Done (mpW m d) g 20864 8960 (mm.view.read (Elt F) fo)) (hg : InOK (m (iLoc d)) (wk L) g) (fd : Buf (Elt F) (oLoc d)) :
    (pts d L (dstT off inb) ((dstT off inb).view.writes (Elt F) fd [⟨Rect.whole S8960, ReadAs.same.apply ((rowT mm ![f, 0] inb').view.read (Elt F) fo)⟩]) : sProp 𝕄)
      = oLoc d ↦[pset 95 f]{fullShare} G m d := by
  rw [← dstT_pts d L off inb f ho]
  exact pointsTo_congr fun p hp => landed_at m d S8960 S1x8960.size off 8960 2 (wk L) 95 f inb inb' squeezes_S1x8960_S8960.numel_eq squeezes_S1x8960_S8960.numel_eq
    mm.view fo fd rfl ho (by omega) (by omega) (by omega) g hd hg p hp

/-- The printed offsets, by worker and chunk. -/
theorem off_at (o : Fin 2 → ℕ) (f j c k : ℕ) (h : o = ![f, 62592 * (L 1).val + 31296 * (L 0).val + c]) (hc : c = 10432 * j) (hk : k = 3 * wk L + j) : o = ![f, 10432 * k] := by
  rw [h]
  congr 2
  have : wk L = 2 * (L 1).val + (L 0).val := rfl
  omega

/-! ## The last chunk's copies -/

/-- What the four copies of chunk 2 hand back, -/
abbrev delivC (hc : k0_cond5 L = 1#1) (fs : Buf (Elt F) ((aV).view.loc (thr d L))) : Fin 4 → sProp 𝕄 :=
  four (del d L (dst (k0_off31 L) (k0_off31_inb L hc)) (row0 aV) (m (oLoc d)) fs) (del d L (dst (k0_off32 L) (k0_off32_inb L hc)) (row1 aV) (m (oLoc d)) fs)
    (del d L (dst (k0_off33 L) (k0_off33_inb L hc)) (row2 aV) (m (oLoc d)) fs) (del d L (dst (k0_off34 L) (k0_off34_inb L hc)) (row3 aV) (m (oLoc d)) fs)
/-- and those of the last task's shorter one. -/
abbrev delivT (hc : k0_cond4 L = 1#1) (fs : Buf (Elt F) ((aV).view.loc (thr d L))) : Fin 4 → sProp 𝕄 :=
  four (del d L (dstT (k0_off22 L) (k0_off22_inb L hc)) (tow0 aV) (m (oLoc d)) fs) (del d L (dstT (k0_off23 L) (k0_off23_inb L hc)) (tow1 aV) (m (oLoc d)) fs)
    (del d L (dstT (k0_off24 L) (k0_off24_inb L hc)) (tow2 aV) (m (oLoc d)) fs) (del d L (dstT (k0_off25 L) (k0_off25_inb L hc)) (tow3 aV) (m (oLoc d)) fs)

instance (hc : k0_cond5 L = 1#1) (fs : Buf (Elt F) ((aV).view.loc (thr d L))) : ∀ t, BI.Storable (upEmb : UEmb _ 𝕄) (delivC m d L hc fs t) := four_storable _ _ _ _
instance (hc : k0_cond4 L = 1#1) (fs : Buf (Elt F) ((aV).view.loc (thr d L))) : ∀ t, BI.Storable (upEmb : UEmb _ 𝕄) (delivT m d L hc fs t) := four_storable _ _ _ _

abbrev nC : ℕ := 333824
abbrev nT : ℕ := 286720

/-- One more wait recorded is one at the calls' own level. -/
theorem waits_more {W W' : Waits sig (HIx 1)} (s : SemLoc sig) (h : ∀ p ∈ W', p ∈ W ∨ p.2 = none) : ∀ p ∈ insert (s, (default : HIx 1)) W', p ∈ W ∨ p.2 = none := by
  intro p hp
  rcases Finset.mem_insert.1 hp with rfl | hp
  · exact .inr rfl
  · exact h p hp

/-- A piece after its copy landed. -/
abbrev lnd (off : Fin 2 → ℕ) (inb : ∀ a : Fin 2, off a + S1x10432.size a ≤ S4x1000000.size a)
    (src : Memref sig .scVector .vmem S10432 .i32) (fo : Buf (Elt F) (src.view.loc (thr d L))) : sProp 𝕄 :=
  pts d L (dst off inb) ((dst off inb).view.writes (Elt F) (m (oLoc d)) [⟨Rect.whole S10432, ReadAs.same.apply (src.view.read (Elt F) fo)⟩])
abbrev lndT (off : Fin 2 → ℕ) (inb : ∀ a : Fin 2, off a + S1x8960.size a ≤ S4x1000000.size a)
    (src : Memref sig .scVector .vmem S8960 .i32) (fo : Buf (Elt F) (src.view.loc (thr d L))) : sProp 𝕄 :=
  pts d L (dstT off inb) ((dstT off inb).view.writes (Elt F) (m (oLoc d)) [⟨Rect.whole S8960, ReadAs.same.apply (src.view.read (Elt F) fo)⟩])

theorem chunk_land (mm : Memref sig .scVector .vmem S4x10440 .i32) (o0 o1 o2 o3 : Fin 2 → ℕ) (i0 : ∀ a : Fin 2, o0 a + S1x10432.size a ≤ S4x1000000.size a)
    (i1 : ∀ a : Fin 2, o1 a + S1x10432.size a ≤ S4x1000000.size a) (i2 : ∀ a : Fin 2, o2 a + S1x10432.size a ≤ S4x1000000.size a)
    (i3 : ∀ a : Fin 2, o3 a + S1x10432.size a ≤ S4x1000000.size a) (j k : ℕ) (fo : mm.view.ty.Contents (Elt F)) (g : S31304.Idx → BitVec 32)
    (h0 : o0 = ![0, 10432 * k]) (h1 : o1 = ![1, 10432 * k]) (h2 : o2 = ![2, 10432 * k]) (h3 : o3 = ![3, 10432 * k]) (hk : k = 3 * wk L + j) (hj : j < 3) (hk' : k < 95)
    (hd : Done (mpW m d) g (10432 * j) 10432 (mm.view.read (Elt F) fo)) (hg : InOK (m (iLoc d)) (wk L) g) :
    iprop(lnd m d L o0 i0 (row0 mm) fo ∗ lnd m d L o1 i1 (row1 mm) fo ∗ lnd m d L o2 i2 (row2 mm) fo ∗ lnd m d L o3 i3 (row3 mm) fo)
      = (chunk d k (G m d) : sProp 𝕄) := by
  have e0 := land m d L mm o0 i0 0 j k inb_S4x10440_S1x10432_0_0 fo g h0 hk hj hk' hd hg (m (oLoc d))
  have e1 := land m d L mm o1 i1 1 j k inb_S4x10440_S1x10432_1_0 fo g h1 hk hj hk' hd hg (m (oLoc d))
  have e2 := land m d L mm o2 i2 2 j k inb_S4x10440_S1x10432_2_0 fo g h2 hk hj hk' hd hg (m (oLoc d))
  have e3 := land m d L mm o3 i3 3 j k inb_S4x10440_S1x10432_3_0 fo g h3 hk hj hk' hd hg (m (oLoc d))
  exact congr (congrArg _ e0) (congr (congrArg _ e1) (congr (congrArg _ e2) e3))

theorem chunk_landT (mm : Memref sig .scVector .vmem S4x10440 .i32) (o0 o1 o2 o3 : Fin 2 → ℕ) (i0 : ∀ a : Fin 2, o0 a + S1x8960.size a ≤ S4x1000000.size a)
    (i1 : ∀ a : Fin 2, o1 a + S1x8960.size a ≤ S4x1000000.size a) (i2 : ∀ a : Fin 2, o2 a + S1x8960.size a ≤ S4x1000000.size a)
    (i3 : ∀ a : Fin 2, o3 a + S1x8960.size a ≤ S4x1000000.size a) (fo : mm.view.ty.Contents (Elt F)) (g : S31304.Idx → BitVec 32)
    (h0 : o0 = ![0, 10432 * 95]) (h1 : o1 = ![1, 10432 * 95]) (h2 : o2 = ![2, 10432 * 95]) (h3 : o3 = ![3, 10432 * 95]) (hw : wk L = 31)
    (hd : Done (mpW m d) g 20864 8960 (mm.view.read (Elt F) fo)) (hg : InOK (m (iLoc d)) (wk L) g) :
    iprop(lndT m d L o0 i0 (tow0 mm) fo ∗ lndT m d L o1 i1 (tow1 mm) fo ∗ lndT m d L o2 i2 (tow2 mm) fo ∗ lndT m d L o3 i3 (tow3 mm) fo)
      = (chunk d 95 (G m d) : sProp 𝕄) := by
  have e0 := landT m d L mm o0 i0 0 inb_S4x10440_S1x8960_0_0 fo g h0 hw hd hg (m (oLoc d))
  have e1 := landT m d L mm o1 i1 1 inb_S4x10440_S1x8960_1_0 fo g h1 hw hd hg (m (oLoc d))
  have e2 := landT m d L mm o2 i2 2 inb_S4x10440_S1x8960_2_0 fo g h2 hw hd hg (m (oLoc d))
  have e3 := landT m d L mm o3 i3 3 inb_S4x10440_S1x8960_3_0 fo g h3 hw hd hg (m (oLoc d))
  exact congr (congrArg _ e0) (congr (congrArg _ e1) (congr (congrArg _ e2) e3))

abbrev aRow (f : Buf (Elt F) ((aV).view.loc (thr d L))) (r : ℕ) (inb : ∀ a : Fin 2, (![r, 0] : Fin 2 → ℕ) a + S1x10432.size a ≤ S4x10440.size a) : sProp 𝕄 :=
  (row aV ![r, 0] inb).view.loc (thr d L) ↦[(row aV ![r, 0] inb).view.set]{fullShare} f
abbrev bRow (f : Buf (Elt F) ((bV).view.loc (thr d L))) (r : ℕ) (inb : ∀ a : Fin 2, (![r, 0] : Fin 2 → ℕ) a + S1x10432.size a ≤ S4x10440.size a) : sProp 𝕄 :=
  (row bV ![r, 0] inb).view.loc (thr d L) ↦[(row bV ![r, 0] inb).view.set]{fullShare} f

/-- The batch of chunk 0's copies, `k` issued and `u` units waited for; -/
abbrev batA (fo : Buf (Elt F) ((aV).view.loc (thr d L))) (k u : ℕ) : sProp 𝕄 :=
  Transfers.Batch countersEmb (thr d L) (.dma cc0_scratch4.sem) (default : HIx 1) nA (delivA m d L fo) k u
/-- and of chunk 1's. -/
abbrev batB (fo : Buf (Elt F) ((bV).view.loc (thr d L))) (k u : ℕ) : sProp 𝕄 :=
  Transfers.Batch countersEmb (thr d L) (.dma cc0_scratch5.sem) (default : HIx 1) nB (delivB m d L fo) k u

set_option maxHeartbeats 4000000 in
/-- The rest of chunk 0's copies issued, chunk 1 computed and its first plane's copy issued. -/
theorem part4_run (g : Buf (Elt F) ((inV).view.loc (thr d L))) (fo : Buf (Elt F) ((aV).view.loc (thr d L))) (fb : Buf (Elt F) ((bV).view.loc (thr d L)))
    (v2 : Vec F S16 .i32) (v5 : BitVec 32) (hmp : ∀ x : S16.Idx, v2 x = mpW m d) :
    iprop(inPts d L g ∗ bPts d L fb ∗ semVal (dcell (thr d L) cc0_scratch5) 0 ∗ batA m d L fo 1 0
        ∗ aRow d L fo 1 inb_S4x10440_S1x10432_1_0 ∗ aRow d L fo 2 inb_S4x10440_S1x10432_2_0 ∗ aRow d L fo 3 inb_S4x10440_S1x10432_3_0
        ∗ pts d L (dst (k0_off9 L 0#32) (k0_off9_inb L 0)) (m (oLoc d)) ∗ pts d L (dst (k0_off10 L 0#32) (k0_off10_inb L 0)) (m (oLoc d))
        ∗ pts d L (dst (k0_off11 L 0#32) (k0_off11_inb L 0)) (m (oLoc d)) ∗ pts d L (dst (k0_off8 L 10432#32) (k0_off8_inb L 1)) (m (oLoc d)))
      ⊢ wp frame (wpE (defs₀ (F := F)) 𝒱₀ (thr d L) none) Set.univ
          (k0_part4 L iV (Memref.isWhole_whole _) pV (Memref.isWhole_whole _) oV (Memref.isWhole_whole _) inV (Memref.isWhole_whole _)
            mpV (Memref.isWhole_whole _) aV (Memref.isWhole_whole _) bV (Memref.isWhole_whole _) cc0_scratch4 cc0_scratch5 cc0_scratch6
            cc0_scoped0 cc0_scoped1 cc0_scoped2 cc0_scoped3 v2 k0_pay9 k0_pay10 v5)
          fun _ => iprop(inPts d L g ∗ batA m d L fo 4 0 ∗ ∃ fob, ⌜Done (mpW m d) g 10432 10432 fob⌝ ∗ batB m d L fob 1 0
            ∗ bRow d L fob 1 inb_S4x10440_S1x10432_1_0 ∗ bRow d L fob 2 inb_S4x10440_S1x10432_2_0 ∗ bRow d L fob 3 inb_S4x10440_S1x10432_3_0
            ∗ ((bV).view.loc (thr d L) ↦[restSet 10432]{fullShare} fob)) := by
  rw [k0_part4_eq_skeleton]; unfold k0_part4_skel
  iintro ⟨Hin, Hb, HsB, HA, Ha1, Ha2, Ha3, HA1, HA2, HA3, HB0⟩
  sl_exec
  sl_for (fun k (_ : PUnit) => iprop(inPts d L g ∗ ∃ fo, ⌜Done (mpW m d) g 10432 (16 * k) fo⌝ ∗ bPts d L fo)) $$ [Hin Hb]
  case region =>
    intro k _
    exact trip2 d L v2 v5 (mpW m d) hmp k g
  · isplitl [Hin]; · iexact Hin
    iexists fb
    isplitr
    · ipureintro; exact Done.zero _ _ _ _
    · iexact Hb
  iintro %_ HI
  icases HI with ⟨Hin, %fob, %hdb, Hb⟩
  ihave Hb := (Entails.of_eq (bPts_rows d L fob)) $$ Hb
  icases Hb with ⟨Hb0, Hb1, Hb2, Hb3, Hbr⟩
  imod (Transfers.batch_alloc' (Lvl := ℕ) countersEmb (thr d L) (default : HIx 1) nB (delivB m d L fob) (sm := .dma cc0_scratch5.sem) (E := Set.univ)) $$ HsB with HB
  sl_exec
  sl_step
  isplitl [Hin]; · iexact Hin
  isplitl [HA]; · iexact HA
  iexists fob
  isplitr
  · ipureintro; exact hdb
  isplitl [HB]; · iexact HB
  isplitl [Hb1]; · iexact Hb1
  isplitl [Hb2]; · iexact Hb2
  isplitl [Hb3]; · iexact Hb3
  iexact Hbr

set_option maxHeartbeats 4000000 in
/-- The rest of chunk 1's copies issued, the first wait for chunk 0's. -/
theorem part5_run (O : CellTallies nD τ sig (HIx 1)) (W : Waits sig (HIx 1)) (fo : Buf (Elt F) ((aV).view.loc (thr d L))) (fob : Buf (Elt F) ((bV).view.loc (thr d L)))
    (v5 : BitVec 32) :
    iprop(Transfers.MayWaits (thr d L) (default : HIx 1) O ∗ batA m d L fo 4 0 ∗ batB m d L fob 1 0
        ∗ bRow d L fob 1 inb_S4x10440_S1x10432_1_0 ∗ bRow d L fob 2 inb_S4x10440_S1x10432_2_0 ∗ bRow d L fob 3 inb_S4x10440_S1x10432_3_0
        ∗ pts d L (dst (k0_off9 L 10432#32) (k0_off9_inb L 1)) (m (oLoc d)) ∗ pts d L (dst (k0_off10 L 10432#32) (k0_off10_inb L 1)) (m (oLoc d))
        ∗ pts d L (dst (k0_off11 L 10432#32) (k0_off11_inb L 1)) (m (oLoc d)) ∗ owesW d L O W)
      ⊢ wp frame (wpE (defs₀ (F := F)) 𝒱₀ (thr d L) none) Set.univ
          (k0_part5 L iV (Memref.isWhole_whole _) pV (Memref.isWhole_whole _) oV (Memref.isWhole_whole _) inV (Memref.isWhole_whole _)
            mpV (Memref.isWhole_whole _) aV (Memref.isWhole_whole _) bV (Memref.isWhole_whole _) cc0_scratch4 cc0_scratch5 cc0_scratch6
            cc0_scoped0 cc0_scoped1 cc0_scoped2 cc0_scoped3 v5)
          fun _ => iprop(batA m d L fo 4 333824 ∗ batB m d L fob 4 0 ∗ owesW d L O W) := by
  rw [k0_part5_eq_skeleton]; unfold k0_part5_skel
  iintro ⟨#Hmw, HA, HB, Hb1, Hb2, Hb3, HB1, HB2, HB3, ⟨%W', %hW', HO⟩⟩
  sl_exec
  sl_step
  isplitl [HA]; · iexact HA
  isplitl [HB]; · iexact HB
  iexists _
  isplitr
  rotate_left
  · iexact HO
  ipureintro
  exact waits_more _ hW'

set_option maxHeartbeats 8000000 in
/-- The task, whole. -/
theorem tile_body (hF : (K (F := F)).Facts) (O : CellTallies nD τ sig (HIx 1)) (W : Waits sig (HIx 1)) (hO : ∀ g, O g none = 0) :
    iprop(levAts (K (F := F)).L (K (F := F)).lev ∗ emp ∗ tilePts m d (wk L) (m (oLoc d))
        ∗ scopedBufs (thr d L) ∗ scopedSems0 (thr d L) ∗ owes (thr d L) O W)
      ⊢ wp frame (wpE (defs₀ (F := F)) 𝒱₀ (thr d L) none) Set.univ
          (cc0_body L iV (Memref.isWhole_whole _) pV (Memref.isWhole_whole _) oV (Memref.isWhole_whole _) inV (Memref.isWhole_whole _)
            mpV (Memref.isWhole_whole _) aV (Memref.isWhole_whole _) bV (Memref.isWhole_whole _) cc0_scratch4 cc0_scratch5 cc0_scratch6
            cc0_scoped0 cc0_scoped1 cc0_scoped2 cc0_scoped3)
          fun _ => iprop(tilePts m d (wk L) (G m d) ∗ scopedBufs (thr d L) ∗ scopedSems0 (thr d L)
            ∗ ∃ W', ⌜∀ p ∈ W', p ∈ W ∨ p.2 = none⌝ ∗ owes (thr d L) O W') := by
  have hwk : wk L < 32 := by
    have h0 : (L 0).val < 2 := (L 0).isLt
    have h1 : (L 1).val < 16 := (L 1).isLt
    show 2 * (L 1).val + (L 0).val < 32
    omega
  have hA0 := off_at L _ 0 0 _ (3 * wk L) (k0_off8_eq L 0) rfl rfl
  have hA1 := off_at L _ 1 0 _ (3 * wk L) (k0_off9_eq L 0) rfl rfl
  have hA2 := off_at L _ 2 0 _ (3 * wk L) (k0_off10_eq L 0) rfl rfl
  have hA3 := off_at L _ 3 0 _ (3 * wk L) (k0_off11_eq L 0) rfl rfl
  have hB0 := off_at L _ 0 1 _ (3 * wk L + 1) (k0_off8_eq L 1) rfl rfl
  have hB1 := off_at L _ 1 1 _ (3 * wk L + 1) (k0_off9_eq L 1) rfl rfl
  have hB2 := off_at L _ 2 1 _ (3 * wk L + 1) (k0_off10_eq L 1) rfl rfl
  have hB3 := off_at L _ 3 1 _ (3 * wk L + 1) (k0_off11_eq L 1) rfl rfl
  simp only [cc0_body_eq_skeleton]; unfold cc0_body_skel
  rw [k0_part7_eq_skeleton]; unfold k0_part7_skel
  rw [(K (F := F)).scopedBufs_V hF d (cV L) (jV L), SparseCore.Cfg.scopedSems0_V (Val := Elt F) d (cV L) (jV L), ownSems0_V d L _ rfl, ownBufs_V]
  iintro ⟨#Hlv, -, ⟨Hi, Hp, Ho0, Ho1, Ho2⟩, ⟨⟨%fin0, Hin⟩, Hmp, Ha, ⟨%fb, Hb⟩, Hbufs⟩, ⟨HsA, HsB, HsT, Hs0, Hs1, Hs2, Hs3, Hsems⟩, HO⟩
  ihave #Hmw := (show levAts (K (F := F)).L (K (F := F)).lev ⊢ Transfers.MayWaits (thr d L) (default : HIx 1) O from
    (K (F := F)).mayWaits_none (thr := thr d L) hO) $$ Hlv
  ihave Hi := (Entails.of_eq (show (iLoc d ↦{shr (wk L)} m (iLoc d) : sProp 𝕄) = ((iV).view.loc (thr d L) ↦{shr (wk L)} m (iLoc d)) from rfl)) $$ Hi
  ihave Hp := (Entails.of_eq (show (pLoc d ↦{shr (wk L)} mpBuf m d : sProp 𝕄) = ((pV).view.loc (thr d L) ↦{shr (wk L)} mpBuf m d) from rfl)) $$ Hp
  ihave Ho0 := (Entails.of_eq (chunk_dst d L _ _ _ _ (k0_off8_inb L 0) (k0_off9_inb L 0) (k0_off10_inb L 0) (k0_off11_inb L 0) _ (by omega) hA0 hA1 hA2 hA3 (m (oLoc d)))) $$ Ho0
  icases Ho0 with ⟨HA0, HA1, HA2, HA3⟩
  ihave Ho1 := (Entails.of_eq (chunk_dst d L _ _ _ _ (k0_off8_inb L 1) (k0_off9_inb L 1) (k0_off10_inb L 1) (k0_off11_inb L 1) _ (by omega) hB0 hB1 hB2 hB3 (m (oLoc d)))) $$ Ho1
  icases Ho1 with ⟨HB0, HB1, HB2, HB3⟩
  rw [wp_bind, wp_bind]
  iapply wp_wand $$ [Hi Hp Hin Hmp Ha HsA Hs0 Hs1 Hs2 Hs3 HO HA0]
  · iapply (part3_run m d L O W fin0)
    isplitr; · iexact Hmw
    isplitl [Hi]; · iexact Hi
    isplitl [Hp]; · iexact Hp
    isplitl [Hin]; · iexact Hin
    isplitl [Hmp]; · iexact Hmp
    isplitl [Ha]; · iexact Ha
    isplitl [HsA]; · iexact HsA
    isplitl [Hs0]; · iexact Hs0
    isplitl [Hs1]; · iexact Hs1
    isplitl [Hs2]; · iexact Hs2
    isplitl [Hs3]; · iexact Hs3
    isplitl [HO]; · iexact HO
    iexact HA0
  iintro %r ⟨Hi, Hp, Hmp, Hs0, Hs1, Hs2, Hs3, %g, %hg, %hr, Hin, ⟨%W', %hW', HO⟩, %fo, %hd, HA, Ha1, Ha2, Ha3, Har⟩
  obtain ⟨v1, v2, v5, rfl, hmp⟩ := hr
  rw [wp_bind]
  iapply wp_wand $$ [Hin Hb HsB HA Ha1 Ha2 Ha3 HA1 HA2 HA3 HB0]
  · iapply (part4_run m d L g fo fb v2 v5 hmp)
    isplitl [Hin]; · iexact Hin
    isplitl [Hb]; · iexact Hb
    isplitl [HsB]; · iexact HsB
    isplitl [HA]; · iexact HA
    isplitl [Ha1]; · iexact Ha1
    isplitl [Ha2]; · iexact Ha2
    isplitl [Ha3]; · iexact Ha3
    isplitl [HA1]; · iexact HA1
    isplitl [HA2]; · iexact HA2
    isplitl [HA3]; · iexact HA3
    iexact HB0
  iintro %_ ⟨Hin, HA, %fob, %hdb, HB, Hb1, Hb2, Hb3, Hbr⟩
  rw [wp_bind]
  iapply wp_wand $$ [HA HB Hb1 Hb2 Hb3 HB1 HB2 HB3 HO]
  · iapply (part5_run m d L O W fo fob v5)
    isplitr; · iexact Hmw
    isplitl [HA]; · iexact HA
    isplitl [HB]; · iexact HB
    isplitl [Hb1]; · iexact Hb1
    isplitl [Hb2]; · iexact Hb2
    isplitl [Hb3]; · iexact Hb3
    isplitl [HB1]; · iexact HB1
    isplitl [HB2]; · iexact HB2
    isplitl [HB3]; · iexact HB3
    iexists W'
    isplitr
    · ipureintro; exact hW'
    · iexact HO
  clear hW' W'
  iintro %_ ⟨HA, HB, ⟨%W', %hW', HO⟩⟩
  rw [k0_part6_eq_skeleton]; unfold k0_part6_skel
  rw [k0_part1_eq_skeleton]; unfold k0_part1_skel
  rw [k0_part2_eq_skeleton]; unfold k0_part2_skel
  rw [wp_bind]
  by_cases hw : wk L = 31
  · have h4 := (cond4_iff L).2 hw
    have h5 : ¬ k0_cond5 L = 1#1 := fun h => (cond5_iff L).1 h hw
    have h6 := (cond6_iff L).2 hw
    have h7 : ¬ k0_cond7 L = 1#1 := fun h => (cond7_iff L).1 h hw
    sl_exec
    ihave Ha := (Entails.of_eq (aPts_rows d L fo).symm) $$ [HA_src0 HA_src1 HA_src2 HA_src3 Har]
    · isplitl [HA_src0]; · iexact HA_src0
      isplitl [HA_src1]; · iexact HA_src1
      isplitl [HA_src2]; · iexact HA_src2
      isplitl [HA_src3]; · iexact HA_src3
      iexact Har
    rw [wp_bind]
    sl_for (fun k (_ : PUnit) => iprop(inPts d L g ∗ ∃ fo, ⌜Done (mpW m d) g 20864 (16 * k) fo⌝ ∗ aPts d L fo)) $$ [Hin Ha]
    case region =>
      intro k _
      exact trip3 d L h4 v2 v5 (mpW m d) hmp k g
    · isplitl [Hin]; · iexact Hin
      iexists fo
      isplitr
      · ipureintro; exact Done.zero _ _ _ _
      · iexact Ha
    iintro %_ HI
    icases HI with ⟨Hin, %foc, %hdc, Ha⟩
    ihave Ha := (Entails.of_eq (aPts_tows d L foc)) $$ Ha
    icases Ha with ⟨Ha0, Ha1, Ha2, Ha3, Har⟩
    imod (Transfers.batch_alloc' (Lvl := ℕ) countersEmb (thr d L) (default : HIx 1) nT (delivT m d L h4 foc) (sm := .dma cc0_scratch6.sem) (E := Set.univ)) $$ HsT with HC
    have hT0 := (k0_off22_eq L).trans (congrArg (fun n => (![0, n] : Fin 2 → ℕ)) (show 62592 * (L 1).val + 31296 * (L 0).val + 20864 = 10432 * 95 by have : wk L = 2 * (L 1).val + (L 0).val := rfl; omega))
    have hT1 := (k0_off23_eq L).trans (congrArg (fun n => (![1, n] : Fin 2 → ℕ)) (show 62592 * (L 1).val + 31296 * (L 0).val + 20864 = 10432 * 95 by have : wk L = 2 * (L 1).val + (L 0).val := rfl; omega))
    have hT2 := (k0_off24_eq L).trans (congrArg (fun n => (![2, n] : Fin 2 → ℕ)) (show 62592 * (L 1).val + 31296 * (L 0).val + 20864 = 10432 * 95 by have : wk L = 2 * (L 1).val + (L 0).val := rfl; omega))
    have hT3 := (k0_off25_eq L).trans (congrArg (fun n => (![3, n] : Fin 2 → ℕ)) (show 62592 * (L 1).val + 31296 * (L 0).val + 20864 = 10432 * 95 by have : wk L = 2 * (L 1).val + (L 0).val := rfl; omega))
    have hk : 3 * wk L + 2 = 95 := by omega
    rw [hk]
    ihave Ho2 := (Entails.of_eq (chunk_dstT d L _ _ _ _ (k0_off22_inb L h4) (k0_off23_inb L h4) (k0_off24_inb L h4) (k0_off25_inb L h4) hT0 hT1 hT2 hT3 (m (oLoc d)))) $$ Ho2
    icases Ho2 with ⟨HC0, HC1, HC2, HC3⟩
    sl_exec
    ihave Ho0 := (Entails.of_eq (chunk_land m d L aV _ _ _ _ (k0_off8_inb L 0) (k0_off9_inb L 0) (k0_off10_inb L 0) (k0_off11_inb L 0) 0 _ fo g hA0 hA1 hA2 hA3 rfl (by omega) (by omega) hd hg)) $$ [HA_dst0 HA_dst1 HA_dst2 HA_dst3]
    · isplitl [HA_dst0]; · iexact HA_dst0
      isplitl [HA_dst1]; · iexact HA_dst1
      isplitl [HA_dst2]; · iexact HA_dst2
      iexact HA_dst3
    ihave Ho1 := (Entails.of_eq (chunk_land m d L bV _ _ _ _ (k0_off8_inb L 1) (k0_off9_inb L 1) (k0_off10_inb L 1) (k0_off11_inb L 1) 1 _ fob g hB0 hB1 hB2 hB3 rfl (by omega) (by omega) hdb hg)) $$ [HB_dst0 HB_dst1 HB_dst2 HB_dst3]
    · isplitl [HB_dst0]; · iexact HB_dst0
      isplitl [HB_dst1]; · iexact HB_dst1
      isplitl [HB_dst2]; · iexact HB_dst2
      iexact HB_dst3
    ihave Ho2 := (Entails.of_eq (chunk_landT m d L aV _ _ _ _ (k0_off22_inb L h4) (k0_off23_inb L h4) (k0_off24_inb L h4) (k0_off25_inb L h4) foc g hT0 hT1 hT2 hT3 hw hdc hg)) $$ [HC_dst0 HC_dst1 HC_dst2 HC_dst3]
    · isplitl [HC_dst0]; · iexact HC_dst0
      isplitl [HC_dst1]; · iexact HC_dst1
      isplitl [HC_dst2]; · iexact HC_dst2
      iexact HC_dst3
    ihave Ha := (Entails.of_eq ((aPts_tows d L foc).symm)) $$ [HC_src0 HC_src1 HC_src2 HC_src3 Har]
    · isplitl [HC_src0]; · iexact HC_src0
      isplitl [HC_src1]; · iexact HC_src1
      isplitl [HC_src2]; · iexact HC_src2
      isplitl [HC_src3]; · iexact HC_src3
      iexact Har
    ihave Hb := (Entails.of_eq ((bPts_rows d L fob).symm)) $$ [HB_src0 HB_src1 HB_src2 HB_src3 Hbr]
    · isplitl [HB_src0]; · iexact HB_src0
      isplitl [HB_src1]; · iexact HB_src1
      isplitl [HB_src2]; · iexact HB_src2
      isplitl [HB_src3]; · iexact HB_src3
      iexact Hbr
    sl_step
    isplitl [Hi Hp Ho0 Ho1 Ho2]
    · isplitl [Hi]; · iexact Hi
      isplitl [Hp]; · iexact Hp
      isplitl [Ho0]; · iexact Ho0
      isplitl [Ho1]; · iexact Ho1
      rw [hk]
      iexact Ho2
    isplitl [Hin Hmp Ha Hb Hbufs]
    · isplitl [Hin]; · iexists g; iexact Hin
      isplitl [Hmp]; · iexact Hmp
      isplitl [Ha]; · iexists _; iexact Ha
      isplitl [Hb]; · iexists _; iexact Hb
      iexact Hbufs
    isplitr [HO]
    · isplitl [HA]; · iexact HA
      isplitl [HB]; · iexact HB
      isplitl [HC]; · iexact HC
      isplitl [Hs0]; · iexact Hs0
      isplitl [Hs1]; · iexact Hs1
      isplitl [Hs2]; · iexact Hs2
      isplitl [Hs3]; · iexact Hs3
      iexact Hsems
    iexists _
    isplitr
    rotate_left
    · iexact HO
    ipureintro
    exact waits_more _ (waits_more _ (waits_more _ (waits_more _ (waits_more _ (waits_more _ (waits_more _ (waits_more _ (waits_more _ (waits_more _ (waits_more _ hW'))))))))))
  · have h4 : ¬ k0_cond4 L = 1#1 := fun h => hw ((cond4_iff L).1 h)
    have h5 := (cond5_iff L).2 hw
    have h6 : ¬ k0_cond6 L = 1#1 := fun h => hw ((cond6_iff L).1 h)
    have h7 := (cond7_iff L).2 hw
    sl_exec
    ihave Ha := (Entails.of_eq (aPts_rows d L fo).symm) $$ [HA_src0 HA_src1 HA_src2 HA_src3 Har]
    · isplitl [HA_src0]; · iexact HA_src0
      isplitl [HA_src1]; · iexact HA_src1
      isplitl [HA_src2]; · iexact HA_src2
      isplitl [HA_src3]; · iexact HA_src3
      iexact Har
    rw [wp_bind]
    sl_for (fun k (_ : PUnit) => iprop(inPts d L g ∗ ∃ fo, ⌜Done (mpW m d) g 20864 (16 * k) fo⌝ ∗ aPts d L fo)) $$ [Hin Ha]
    case region =>
      intro k _
      exact trip4 d L h5 v2 v5 (mpW m d) hmp k g
    · isplitl [Hin]; · iexact Hin
      iexists fo
      isplitr
      · ipureintro; exact Done.zero _ _ _ _
      · iexact Ha
    iintro %_ HI
    icases HI with ⟨Hin, %foc, %hdc, Ha⟩
    ihave Ha := (Entails.of_eq (aPts_rows d L foc)) $$ Ha
    icases Ha with ⟨Ha0, Ha1, Ha2, Ha3, Har⟩
    ihave HA : iprop(semVal (dcell (thr d L) cc0_scratch4) 0) $$ [HA]
    · iexact HA
    imod (Transfers.batch_alloc' (Lvl := ℕ) countersEmb (thr d L) (default : HIx 1) nC (delivC m d L h5 foc) (sm := .dma cc0_scratch4.sem) (E := Set.univ)) $$ HA with HC
    have hC0 := off_at L _ 0 2 _ (3 * wk L + 2) (k0_off31_eq L) rfl rfl
    have hC1 := off_at L _ 1 2 _ (3 * wk L + 2) (k0_off32_eq L) rfl rfl
    have hC2 := off_at L _ 2 2 _ (3 * wk L + 2) (k0_off33_eq L) rfl rfl
    have hC3 := off_at L _ 3 2 _ (3 * wk L + 2) (k0_off34_eq L) rfl rfl
    ihave Ho2 := (Entails.of_eq (chunk_dst d L _ _ _ _ (k0_off31_inb L h5) (k0_off32_inb L h5) (k0_off33_inb L h5) (k0_off34_inb L h5) _ (by omega) hC0 hC1 hC2 hC3 (m (oLoc d)))) $$ Ho2
    icases Ho2 with ⟨HC0, HC1, HC2, HC3⟩
    sl_exec
    ihave Ho0 := (Entails.of_eq (chunk_land m d L aV _ _ _ _ (k0_off8_inb L 0) (k0_off9_inb L 0) (k0_off10_inb L 0) (k0_off11_inb L 0) 0 _ fo g hA0 hA1 hA2 hA3 rfl (by omega) (by omega) hd hg)) $$ [HA_dst0 HA_dst1 HA_dst2 HA_dst3]
    · isplitl [HA_dst0]; · iexact HA_dst0
      isplitl [HA_dst1]; · iexact HA_dst1
      isplitl [HA_dst2]; · iexact HA_dst2
      iexact HA_dst3
    ihave Ho1 := (Entails.of_eq (chunk_land m d L bV _ _ _ _ (k0_off8_inb L 1) (k0_off9_inb L 1) (k0_off10_inb L 1) (k0_off11_inb L 1) 1 _ fob g hB0 hB1 hB2 hB3 rfl (by omega) (by omega) hdb hg)) $$ [HB_dst0 HB_dst1 HB_dst2 HB_dst3]
    · isplitl [HB_dst0]; · iexact HB_dst0
      isplitl [HB_dst1]; · iexact HB_dst1
      isplitl [HB_dst2]; · iexact HB_dst2
      iexact HB_dst3
    ihave Ho2 := (Entails.of_eq (chunk_land m d L aV _ _ _ _ (k0_off31_inb L h5) (k0_off32_inb L h5) (k0_off33_inb L h5) (k0_off34_inb L h5) 2 _ foc g hC0 hC1 hC2 hC3 rfl (by omega) (by omega) hdc hg)) $$ [HC_dst0 HC_dst1 HC_dst2 HC_dst3]
    · isplitl [HC_dst0]; · iexact HC_dst0
      isplitl [HC_dst1]; · iexact HC_dst1
      isplitl [HC_dst2]; · iexact HC_dst2
      iexact HC_dst3
    ihave Ha := (Entails.of_eq ((aPts_rows d L foc).symm)) $$ [HC_src0 HC_src1 HC_src2 HC_src3 Har]
    · isplitl [HC_src0]; · iexact HC_src0
      isplitl [HC_src1]; · iexact HC_src1
      isplitl [HC_src2]; · iexact HC_src2
      isplitl [HC_src3]; · iexact HC_src3
      iexact Har
    ihave Hb := (Entails.of_eq ((bPts_rows d L fob).symm)) $$ [HB_src0 HB_src1 HB_src2 HB_src3 Hbr]
    · isplitl [HB_src0]; · iexact HB_src0
      isplitl [HB_src1]; · iexact HB_src1
      isplitl [HB_src2]; · iexact HB_src2
      isplitl [HB_src3]; · iexact HB_src3
      iexact Hbr
    sl_step
    isplitl [Hi Hp Ho0 Ho1 Ho2]
    · isplitl [Hi]; · iexact Hi
      isplitl [Hp]; · iexact Hp
      isplitl [Ho0]; · iexact Ho0
      isplitl [Ho1]; · iexact Ho1
      iexact Ho2
    isplitl [Hin Hmp Ha Hb Hbufs]
    · isplitl [Hin]; · iexists g; iexact Hin
      isplitl [Hmp]; · iexact Hmp
      isplitl [Ha]; · iexists _; iexact Ha
      isplitl [Hb]; · iexists _; iexact Hb
      iexact Hbufs
    isplitr [HO]
    · isplitl [HC]; · iexact HC
      isplitl [HB]; · iexact HB
      isplitl [HsT]; · iexact HsT
      isplitl [Hs0]; · iexact Hs0
      isplitl [Hs1]; · iexact Hs1
      isplitl [Hs2]; · iexact Hs2
      isplitl [Hs3]; · iexact Hs3
      iexact Hsems
    iexists _
    isplitr
    rotate_left
    · iexact HO
    ipureintro
    exact waits_more _ (waits_more _ (waits_more _ (waits_more _ (waits_more _ (waits_more _ (waits_more _ (waits_more _ (waits_more _ (waits_more _ (waits_more _ hW'))))))))))

end Cert.Proof.Para

end
-- ==== Proof.Launch.lean ====
/-
  The launch: each task's obligation, the arrays cut into what the tasks hold, `@main` on the TensorCore, and the
  program's run with its result.
-/
module

public import proofs.«01_k».proof.Proof.Body

@[expose] public section

noncomputable section

namespace Cert.Proof.Para

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within after)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          iV (Memref.isWhole_whole _) pV (Memref.isWhole_whole _) oV (Memref.isWhole_whole _) inV (Memref.isWhole_whole _)
          mpV (Memref.isWhole_whole _) aV (Memref.isWhole_whole _) bV (Memref.isWhole_whole _) cc0_scratch4 cc0_scratch5 cc0_scratch6
          cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

/-- A core's tasks bring what the core's sequencer was handed, and take back what it hands on. -/
theorem vecSplit : (K (F := F)).VecSplit' (P m) 0 := by
  intro d c
  show (bigSep Finset.univ fun i : Fin 16 => tilePts m d (2 * i.val + c.val) (m (oLoc d))) ⊢ |={Set.univ}=> iprop(
      (bigSep Finset.univ fun i : Fin 16 => tilePts m d (2 * i.val + c.val) (m (oLoc d)))
      ∗ ((bigSep Finset.univ fun i : Fin 16 => tilePts m d (2 * i.val + c.val) (G m d))
          -∗ (bigSep Finset.univ fun i : Fin 16 => tilePts m d (2 * i.val + c.val) (G m d))))
  iintro H
  imodintro
  isplitl [H]; · iexact H
  iintro H
  iexact H

/-! ## The whole arrays are what the tasks hold together -/

theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The pieces, by task, chunk of the task, and plane. -/
abbrev piece (t : Fin 32 × Fin 3 × Fin 4) : Finset S4x1000000.Idx := pset (3 * t.1.val + t.2.1.val) t.2.2.val

theorem piece_disjoint : ∀ t ∈ (Finset.univ : Finset (Fin 32 × Fin 3 × Fin 4)), ∀ t' ∈ (Finset.univ : Finset (Fin 32 × Fin 3 × Fin 4)),
    t ≠ t' → Disjoint (piece t) (piece t') := by
  intro t _ t' _ h
  refine Finset.disjoint_left.2 fun p hp hp' => h ?_
  have e := mem_pset.1 hp
  have e' := mem_pset.1 hp'
  obtain ⟨⟨a, ha⟩, ⟨b, hb⟩, ⟨c, hc⟩⟩ := t
  obtain ⟨⟨a', ha'⟩, ⟨b', hb'⟩, ⟨c', hc'⟩⟩ := t'
  simp only [Prod.mk.injEq, Fin.mk.injEq] at e e' ⊢
  omega

theorem piece_cover : (Finset.univ : Finset (Fin 32 × Fin 3 × Fin 4)).biUnion piece = Finset.univ := by
  refine Finset.eq_univ_iff_forall.2 fun p => ?_
  have h0 : (p 0).val < 4 := (p 0).isLt
  have h1 : (p 1).val < 1000000 := (p 1).isLt
  refine Finset.mem_biUnion.2 ⟨(⟨(p 1).val / 10432 / 3, by omega⟩, ⟨(p 1).val / 10432 % 3, by omega⟩, ⟨(p 0).val, h0⟩), Finset.mem_univ _, mem_pset.2 ⟨rfl, ?_⟩⟩
  show (p 1).val / 10432 = 3 * ((p 1).val / 10432 / 3) + (p 1).val / 10432 % 3
  omega

theorem planes_pieces (d : Dev nD) (f : Buf (Elt F) (oLoc d)) :
    (oLoc d ↦{fullShare} f : sProp 𝕄)
      = bigSep Finset.univ fun w : Fin 32 => iprop(chunk d (3 * w.val) f ∗ chunk d (3 * w.val + 1) f ∗ chunk d (3 * w.val + 2) f) := by
  have e := pointsTo_biUnion (Ix := HIx 1) (Name := ℕ) (U := UU) (Lvl := ℕ) (ℓ := oLoc d) (q := fullShare) (f := f) Finset.univ piece piece_disjoint
  rw [piece_cover] at e
  refine e.trans ((BI.bigSep_univ_prod _).trans (bigSep_congr fun w _ => ?_))
  refine (BI.bigSep_univ_prod _).trans ?_
  rw [bigSep_three, bigSep_four, bigSep_four, bigSep_four]
  rfl

/-- A family over the tasks, by core and subcore. -/
theorem bigSep_tasks (Φ : ℕ → sProp 𝕄) :
    (bigSep Finset.univ fun w : Fin 32 => Φ w.val) = bigSep Finset.univ fun c : Fin 2 => bigSep Finset.univ fun i : Fin 16 => Φ (2 * i.val + c.val) := by
  have e := BI.bigSep_univ_equiv ((Equiv.prodComm (Fin 2) (Fin 16)).trans (finProdFinEquiv (m := 16) (n := 2))) (fun w : Fin (16 * 2) => Φ w.val)
  refine e.trans ((BI.bigSep_univ_prod _).trans (bigSep_congr fun c _ => bigSep_congr fun i _ => congrArg Φ ?_))
  show c.val + 2 * i.val = 2 * i.val + c.val
  omega

/-- The share of the two arrays all tasks read that stays behind. -/
abbrev left : PosShare TreeShare := Transfers.shareDrop fullShare 32

theorem shares (ℓ : Loc nD τ sig) (f : Buf (Elt F) ℓ) :
    (ℓ ↦{fullShare} f : sProp 𝕄) = iprop((ℓ ↦{left} f) ∗ bigSep Finset.univ fun w : Fin 32 => ℓ ↦{shr w.val} f) := by
  have h := Transfers.pointsTo_toks (Ix := HIx 1) (Name := ℕ) (U := UU) (Lvl := ℕ) (ℓ := ℓ) (S := Finset.univ) (f := f) fullShare 32
  exact BI.Entails.antisymm h.1 h.2

theorem regroup (A A' B B' C : sProp 𝕄) : iprop((A ∗ A') ∗ (B ∗ B') ∗ C) = iprop((A ∗ B) ∗ A' ∗ B' ∗ C) := by
  have h : iprop((A ∗ A') ∗ (B ∗ B') ∗ C) ⊢ iprop((A ∗ B) ∗ A' ∗ B' ∗ C) := by
    iintro ⟨⟨Hi, Hi'⟩, ⟨Hp, Hp'⟩, Ho⟩
    isplitl [Hi Hp]
    · isplitl [Hi]; · iexact Hi
      iexact Hp
    isplitl [Hi']; · iexact Hi'
    isplitl [Hp']; · iexact Hp'
    iexact Ho
  have h' : iprop((A ∗ B) ∗ A' ∗ B' ∗ C) ⊢ iprop((A ∗ A') ∗ (B ∗ B') ∗ C) := by
    iintro ⟨⟨Hi, Hp⟩, Hi', Hp', Ho⟩
    isplitl [Hi Hi']
    · isplitl [Hi]; · iexact Hi
      iexact Hi'
    isplitl [Hp Hp']
    · isplitl [Hp]; · iexact Hp
      iexact Hp'
    iexact Ho
  exact BI.Entails.antisymm h h'

theorem arrays_tasks (d : Dev nD) (f : Buf (Elt F) (oLoc d)) :
    iprop((iLoc d ↦{fullShare} m (iLoc d)) ∗ (pLoc d ↦{fullShare} mpBuf m d) ∗ oLoc d ↦{fullShare} f)
      = (iprop(((iLoc d ↦{left} m (iLoc d)) ∗ pLoc d ↦{left} mpBuf m d)
          ∗ bigSep Finset.univ fun c : Fin 2 => bigSep Finset.univ fun i : Fin 16 => tilePts m d (2 * i.val + c.val) f) : sProp 𝕄) := by
  rw [← bigSep_tasks (fun w => tilePts m d w f)]
  unfold tilePts
  rw [bigSep_sep', bigSep_sep', ← planes_pieces, shares (iLoc d), shares (pLoc d)]
  exact regroup _ _ _ _ _

theorem st0_eq (d : Dev nD) : (bigSep Finset.univ fun c : Fin ((K (F := F)).nCore 0) => (P m).st 0 d c)
    = bigSep Finset.univ fun c : Fin 2 => bigSep Finset.univ fun i : Fin 16 => tilePts m d (2 * i.val + c.val) (m (oLoc d)) := rfl
theorem dn0_eq (d : Dev nD) : (bigSep Finset.univ fun c : Fin ((K (F := F)).nCore 0) => (P m).dn 0 d c)
    = bigSep Finset.univ fun c : Fin 2 => bigSep Finset.univ fun i : Fin 16 => tilePts m d (2 * i.val + c.val) (G m d) := rfl

/-! ## The launch element of the certificate's ghost state -/

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## `@main` on the TensorCore -/

abbrev i' : DevRef τ sig := Proc.devRef .tc (main_arg0 : Ref sig .tc)
abbrev a' : DevRef τ sig := Proc.devRef .tc (main_arg1 : Ref sig .tc)
abbrev c' : DevRef τ sig := Proc.devRef .tc (main_c : Ref sig .tc)
abbrev s' : DevRef τ sig := Proc.devRef .tc (main_v0 : Ref sig .tc)
abbrev p' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opC : HloOp τ sig (Elt F) := StableHlo.nullary main_c (constantI S_ 32 1#32)
abbrev opS : HloOp τ sig (Elt F) :=
  StableHlo.binary main_arg1 main_c main_v0 (subi : (⟨S_, .i32⟩ : BufTy).Contents (Elt F) → (⟨S_, .i32⟩ : BufTy).Contents (Elt F) → (⟨S_, .i32⟩ : BufTy).Contents (Elt F))
abbrev opB : HloOp τ sig (Elt F) :=
  StableHlo.unary main_v0 main_v1 (broadcastInDim S16 ![] bcast_S_S16 : (⟨S_, .i32⟩ : BufTy).Contents (Elt F) → (⟨S16, .i32⟩ : BufTy).Contents (Elt F))
abbrev opT : HloOp τ sig (Elt F) :=
  StableHlo.unary main_v2 main_v3 ((transpose S1000000x4 [1, 0] · transposes_S4x1000000_S1000000x4_1_0) : (⟨S4x1000000, .i32⟩ : BufTy).Contents (Elt F) → (⟨S1000000x4, .i32⟩ : BufTy).Contents (Elt F))

/-- The program's result: the planes, transposed. -/
def RES (d : Dev nD) : Buf (Elt F) (rLoc d) :=
  (transpose S1000000x4 [1, 0] (G m d : (⟨S4x1000000, .i32⟩ : BufTy).Contents (Elt F)) transposes_S4x1000000_S1000000x4_1_0 : (⟨S1000000x4, .i32⟩ : BufTy).Contents (Elt F))

abbrev S7 : Finset (DevRef τ sig) := {i', a', c', s', p', o', r'}

theorem held_S7 (d : Dev nD) (W : Valuation τ sig (Elt F)) :
    (held (T d) S7 W : sProp 𝕄) = iprop((iLoc d ↦{fullShare} W i') ∗ (aLoc d ↦{fullShare} W a') ∗ ((SparseCore.T d).loc main_c ↦{fullShare} W c')
      ∗ ((SparseCore.T d).loc main_v0 ↦{fullShare} W s') ∗ (pLoc d ↦{fullShare} W p') ∗ (oLoc d ↦{fullShare} W o') ∗ rLoc d ↦{fullShare} W r') := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The launch valuation; then the last paragraph's number computed; then the planes filled. -/
def V0 (d : Dev nD) : Valuation τ sig (Elt F) := fun b => m (d, b)
def V3 (d : Dev nD) : Valuation τ sig (Elt F) := (opB (F := F)).result ((opS (F := F)).result ((opC (F := F)).result (V0 m d)))
def V4 (d : Dev nD) : Valuation τ sig (Elt F) := Function.update (V3 m d) o' (G m d)

theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_c, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

theorem V3_i (d : Dev nD) : V3 m d i' = m (iLoc d) := by
  unfold V3 opB opS opC i'
  after_results
  rfl
theorem V3_a (d : Dev nD) : V3 m d a' = m (aLoc d) := by
  unfold V3 opB opS opC a'
  after_results
  rfl
theorem V3_o (d : Dev nD) : V3 m d o' = m (oLoc d) := by
  unfold V3 opB opS opC o'
  after_results
  rfl
theorem V3_p (d : Dev nD) : V3 m d p' = mpBuf m d := by
  unfold V3 opB opS opC p'
  after_results
  rfl

theorem V4_ne (d : Dev nD) {b : DevRef τ sig} (h : b ≠ o') : V4 m d b = V3 m d b := Function.update_of_ne h _ _
theorem V4_o (d : Dev nD) : V4 m d o' = G m d := Function.update_self _ _ _

theorem V5_i (d : Dev nD) : (opT (F := F)).result (V4 m d) i' = m (iLoc d) := by
  unfold opT i'
  after_results
  exact (V4_ne m d (by decide)).trans (V3_i m d)
theorem V5_a (d : Dev nD) : (opT (F := F)).result (V4 m d) a' = m (aLoc d) := by
  unfold opT a'
  after_results
  exact (V4_ne m d (by decide)).trans (V3_a m d)
theorem V5_r (d : Dev nD) : (opT (F := F)).result (V4 m d) r' = RES m d := by
  unfold opT r'
  after_results
  rw [V4_o]
  rfl

/-- What `@main` leaves the claim. -/
abbrev FIN (d : Dev nD) : sProp 𝕄 := iprop((iLoc d ↦{fullShare} m (iLoc d)) ∗ (aLoc d ↦{fullShare} m (aLoc d)) ∗ rLoc d ↦{fullShare} RES m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opC) (S := S7) (show ({c'} : Finset (DevRef τ sig)) ⊆ S7 by decide) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opS) (S := S7) (show ({a', c', s'} : Finset (DevRef τ sig)) ⊆ S7 by decide)) $$ [Hb Hheld]
  · isplitl [Hb]; · iexact Hb
    iexact Hheld
  iintro ⟨Hb, Hheld⟩
  rw [wp_ret]; imodintro
  iapply (wp_hlo_within 𝒱 (SparseCore.T d) none Set.univ (op := opB) (S := S7) (show ({s', p'} : Finset (DevRef τ sig)) ⊆ S7 by decide)) $$ [Hb Hheld]
  · isplitl [Hb]; · iexact Hb
    iexact Hheld
  iintro ⟨Hb, Hheld⟩
  rw [wp_ret]; imodintro
  ihave Hheld := (Entails.of_eq (held_S7 (F := F) d _)) $$ Hheld
  icases Hheld with ⟨Hi, Ha, Hc, Hs, Hp, Ho, Hr⟩
  rw [show (opB (F := F)).result ((opS (F := F)).result ((opC (F := F)).result (V0 m d))) = V3 m d from rfl, V3_i, V3_a, V3_p, V3_o]
  ihave HT := (Entails.of_eq (arrays_tasks m d (m (oLoc d)))) $$ [Hi Hp Ho]
  · isplitl [Hi]; · iexact Hi
    isplitl [Hp]; · iexact Hp
    iexact Ho
  icases HT with ⟨Hl, HT⟩
  iapply ((K (F := F)).wp_run (D (F := F)) 𝒱 (EH := EH) (P := P m) κ d 0) $$ [Hst HT Hl Ha Hc Hs Hr Hb Hts]
  isplitr; · iexact Hctx
  isplitl [Hst]; · iexact Hst
  isplitl [HT]
  · rw [st0_eq]; iexact HT
  iintro ⟨Hst, Hdn⟩
  ihave Hdn := (Entails.of_eq (dn0_eq m d)) $$ Hdn
  ihave HT := (Entails.of_eq (arrays_tasks m d (G m d)).symm) $$ [Hl Hdn]
  · isplitl [Hl]; · iexact Hl
    iexact Hdn
  icases HT with ⟨Hi, Hp, Ho⟩
  iapply (wp_hlo_within 𝒱 (SparseCore.T d) none Set.univ (op := opT) (S := S7) (show ({o', r'} : Finset (DevRef τ sig)) ⊆ S7 by decide) (V := V4 m d)) $$ [Hb Hi Ha Hc Hs Hp Ho Hr]
  · isplitl [Hb]; · iexact Hb
    rw [held_S7, V4_ne m d (b := i') (by decide), V4_ne m d (b := a') (by decide), V4_ne m d (b := c') (by decide), V4_ne m d (b := s') (by decide),
      V4_ne m d (b := p') (by decide), V4_ne m d (b := r') (by decide), V4_o, V3_i, V3_a, V3_p]
    isplitl [Hi]; · iexact Hi
    isplitl [Ha]; · iexact Ha
    isplitl [Hc]; · iexact Hc
    isplitl [Hs]; · iexact Hs
    isplitl [Hp]; · iexact Hp
    isplitl [Ho]; · iexact Ho
    iexact Hr
  iintro ⟨Hb, Hheld⟩
  ihave Hheld := (Entails.of_eq (held_S7 (F := F) d _)) $$ Hheld
  icases Hheld with ⟨Hi, Ha, -, -, -, -, Hr⟩
  rw [V5_i, V5_a, V5_r, wp_ret]
  imodintro; imodintro
  isplitl [Hst]; · iexact Hst
  isplitr [Hb Hts]
  · isplitl [Hi]; · iexact Hi
    isplitl [Ha]; · iexact Ha
    iexact Hr
  isplitl [Hb] <;> iassumption

def fq (d : Dev nD) (s' : Phys nD τ sig (Elt F)) : Prop :=
  s'.mem.mem (iLoc d) = m (iLoc d) ∧ s'.mem.mem (aLoc d) = m (aLoc d) ∧ s'.mem.mem (rLoc d) = RES m d

set_option maxRecDepth 16384 in
theorem hfin (d : Dev nD) (s' : Phys nD τ sig (Elt F)) : iprop(FIN m d ∗ SI s') ⊢ (⌜fq m d s'⌝ : sProp 𝕄) := by
  iintro ⟨⟨Hi, Ha, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- At the end: the arguments as they were, the result the transposed planes, every counter at zero. -/
def QC : PUnit × MemSt nD τ sig (Elt F) → Prop := fun r =>
  (∀ c : Dev nD, r.2.mem (iLoc c) = m (iLoc c) ∧ r.2.mem (aLoc c) = m (aLoc c) ∧ r.2.mem (rLoc c) = RES m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Para

end
-- ==== Proof.Reference.lean ====
/-
  The reference's run: @main's operations in order on the TensorCore, what they leave in the result and that they
  leave the arguments as they were.
-/
module

public import proofs.«01_k».proof.Proof.Launch
public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Does a new paragraph start: yes at the first word, elsewhere when the word differs from the one before it. -/
def starts (ids : IVec S1000000 32) : IVec S1000000 1 :=
  concatenate S1000000 0 [⟨S1, broadcastInDim S1 ![] bcast_S_S1 (constantI S_ 1 1#1)⟩,
    ⟨S999999, cmpi .ne (extractStridedSlice S999999 ![1] ids slices_S1000000_S999999_1)
      (extractStridedSlice S999999 ![0] ids slices_S1000000_S999999_0)⟩] concatenates_S1_S999999_S1000000_d0

/-- One scalar at every position. -/
def every (x : IVec S_ 32) : IVec S1000000 32 := broadcastInDim S1000000 ![] bcast_S_S1000000 x

/-- The number of the last paragraph. -/
def lastP (a : IVec S_ 32) : IVec S_ 32 := subi a (constantI S_ 32 1#32)

/-- Is the word strictly between the first paragraph's number and the last one's. -/
def inner (ids : IVec S1000000 32) (a : IVec S_ 32) : IVec S1000000 1 :=
  andi (cmpi .sgt ids (every (constantI S_ 32 0#32))) (cmpi .slt ids (every (lastP a)))

/-- A yes-or-no as a column of floats. -/
def col (b : IVec S1000000 1) : FVec F S1000000x1 .f32 := broadcastInDim S1000000x1 ![0] bcast_S1000000_S1000000x1_0 (uitofp .f32 b)

/-- Four columns side by side, as integers. -/
def beside (b₀ b₁ b₂ b₃ : IVec S1000000 1) : IVec S1000000x4 32 :=
  fptosi 32 (concatenate S1000000x4 1 [⟨S1000000x1, col (F := F) b₀⟩, ⟨S1000000x1, col b₁⟩, ⟨S1000000x1, col b₂⟩, ⟨S1000000x1, col b₃⟩]
    concatenates_S1000000x1_S1000000x1_S1000000x1_S1000000x1_S1000000x4_d1)

/-- The reference's result from its two arguments. -/
def out (ids : IVec S1000000 32) (a : IVec S_ 32) : IVec S1000000x4 32 :=
  beside (F := F) (starts ids) (cmpi .eq ids (every (constantI S_ 32 0#32))) (inner ids a) (cmpi .eq ids (every (lastP a)))

/-- @main's operations, in order. -/
abbrev ops : List (HloOp τ sig (Elt F)) :=
  [ nullary main_c (constantI S_ 1 1#1),
    unary main_c main_v0 (broadcastInDim S1 ![] bcast_S_S1 : (⟨S_, .i1⟩ : BufTy).Contents (Elt F) → (⟨S1, .i1⟩ : BufTy).Contents (Elt F)),
    unary main_arg0 main_v1 ((extractStridedSlice S999999 ![1] · slices_S1000000_S999999_1) : (⟨S1000000, .i32⟩ : BufTy).Contents (Elt F) → (⟨S999999, .i32⟩ : BufTy).Contents (Elt F)),
    unary main_arg0 main_v2 ((extractStridedSlice S999999 ![0] · slices_S1000000_S999999_0) : (⟨S1000000, .i32⟩ : BufTy).Contents (Elt F) → (⟨S999999, .i32⟩ : BufTy).Contents (Elt F)),
    binary main_v1 main_v2 main_v3 (cmpi .ne : (⟨S999999, .i32⟩ : BufTy).Contents (Elt F) → (⟨S999999, .i32⟩ : BufTy).Contents (Elt F) → (⟨S999999, .i1⟩ : BufTy).Contents (Elt F)),
    binary main_v0 main_v3 main_v4 ((fun a b => concatenate S1000000 0 [⟨S1, a⟩, ⟨S999999, b⟩] concatenates_S1_S999999_S1000000_d0) : (⟨S1, .i1⟩ : BufTy).Contents (Elt F) → (⟨S999999, .i1⟩ : BufTy).Contents (Elt F) → (⟨S1000000, .i1⟩ : BufTy).Contents (Elt F)),
    nullary main_c_0 (constantI S_ 32 1#32),
    binary main_arg1 main_c_0 main_v5 (subi : (⟨S_, .i32⟩ : BufTy).Contents (Elt F) → (⟨S_, .i32⟩ : BufTy).Contents (Elt F) → (⟨S_, .i32⟩ : BufTy).Contents (Elt F)),
    unary main_v4 main_v6 (uitofp .f32 : (⟨S1000000, .i1⟩ : BufTy).Contents (Elt F) → (⟨S1000000, .f32⟩ : BufTy).Contents (Elt F)),
    nullary main_c_1 (constantI S_ 32 0#32),
    unary main_c_1 main_v7 (broadcastInDim S1000000 ![] bcast_S_S1000000 : (⟨S_, .i32⟩ : BufTy).Contents (Elt F) → (⟨S1000000, .i32⟩ : BufTy).Contents (Elt F)),
    binary main_arg0 main_v7 main_v8 (cmpi .eq : (⟨S1000000, .i32⟩ : BufTy).Contents (Elt F) → (⟨S1000000, .i32⟩ : BufTy).Contents (Elt F) → (⟨S1000000, .i1⟩ : BufTy).Contents (Elt F)),
    unary main_v8 main_v9 (uitofp .f32 : (⟨S1000000, .i1⟩ : BufTy).Contents (Elt F) → (⟨S1000000, .f32⟩ : BufTy).Contents (Elt F)),
    nullary main_c_2 (constantI S_ 32 0#32),
    unary main_c_2 main_v10 (broadcastInDim S1000000 ![] bcast_S_S1000000 : (⟨S_, .i32⟩ : BufTy).Contents (Elt F) → (⟨S1000000, .i32⟩ : BufTy).Contents (Elt F)),
    binary main_arg0 main_v10 main_v11 (cmpi .sgt : (⟨S1000000, .i32⟩ : BufTy).Contents (Elt F) → (⟨S1000000, .i32⟩ : BufTy).Contents (Elt F) → (⟨S1000000, .i1⟩ : BufTy).Contents (Elt F)),
    unary main_v5 main_v12 (broadcastInDim S1000000 ![] bcast_S_S1000000 : (⟨S_, .i32⟩ : BufTy).Contents (Elt F) → (⟨S1000000, .i32⟩ : BufTy).Contents (Elt F)),
    binary main_arg0 main_v12 main_v13 (cmpi .slt : (⟨S1000000, .i32⟩ : BufTy).Contents (Elt F) → (⟨S1000000, .i32⟩ : BufTy).Contents (Elt F) → (⟨S1000000, .i1⟩ : BufTy).Contents (Elt F)),
    binary main_v11 main_v13 main_v14 (andi : (⟨S1000000, .i1⟩ : BufTy).Contents (Elt F) → (⟨S1000000, .i1⟩ : BufTy).Contents (Elt F) → (⟨S1000000, .i1⟩ : BufTy).Contents (Elt F)),
    unary main_v14 main_v15 (uitofp .f32 : (⟨S1000000, .i1⟩ : BufTy).Contents (Elt F) → (⟨S1000000, .f32⟩ : BufTy).Contents (Elt F)),
    unary main_v5 main_v16 (broadcastInDim S1000000 ![] bcast_S_S1000000 : (⟨S_, .i32⟩ : BufTy).Contents (Elt F) → (⟨S1000000, .i32⟩ : BufTy).Contents (Elt F)),
    binary main_arg0 main_v16 main_v17 (cmpi .eq : (⟨S1000000, .i32⟩ : BufTy).Contents (Elt F) → (⟨S1000000, .i32⟩ : BufTy).Contents (Elt F) → (⟨S1000000, .i1⟩ : BufTy).Contents (Elt F)),
    unary main_v17 main_v18 (uitofp .f32 : (⟨S1000000, .i1⟩ : BufTy).Contents (Elt F) → (⟨S1000000, .f32⟩ : BufTy).Contents (Elt F)),
    unary main_v6 main_v19 (broadcastInDim S1000000x1 ![0] bcast_S1000000_S1000000x1_0 : (⟨S1000000, .f32⟩ : BufTy).Contents (Elt F) → (⟨S1000000x1, .f32⟩ : BufTy).Contents (Elt F)),
    unary main_v9 main_v20 (broadcastInDim S1000000x1 ![0] bcast_S1000000_S1000000x1_0 : (⟨S1000000, .f32⟩ : BufTy).Contents (Elt F) → (⟨S1000000x1, .f32⟩ : BufTy).Contents (Elt F)),
    unary main_v15 main_v21 (broadcastInDim S1000000x1 ![0] bcast_S1000000_S1000000x1_0 : (⟨S1000000, .f32⟩ : BufTy).Contents (Elt F) → (⟨S1000000x1, .f32⟩ : BufTy).Contents (Elt F)),
    unary main_v18 main_v22 (broadcastInDim S1000000x1 ![0] bcast_S1000000_S1000000x1_0 : (⟨S1000000, .f32⟩ : BufTy).Contents (Elt F) → (⟨S1000000x1, .f32⟩ : BufTy).Contents (Elt F)),
    nary ![main_v19, main_v20, main_v21, main_v22] main_v23 (fun u => (concatenate S1000000x4 1 [⟨S1000000x1, (u 0 : (⟨S1000000x1, .f32⟩ : BufTy).Contents (Elt F))⟩, ⟨S1000000x1, (u 1 : (⟨S1000000x1, .f32⟩ : BufTy).Contents (Elt F))⟩, ⟨S1000000x1, (u 2 : (⟨S1000000x1, .f32⟩ : BufTy).Contents (Elt F))⟩, ⟨S1000000x1, (u 3 : (⟨S1000000x1, .f32⟩ : BufTy).Contents (Elt F))⟩] concatenates_S1000000x1_S1000000x1_S1000000x1_S1000000x1_S1000000x4_d1 : (⟨S1000000x4, .f32⟩ : BufTy).Contents (Elt F))),
    unary main_v23 main_v24 (fptosi 32 : (⟨S1000000x4, .f32⟩ : BufTy).Contents (Elt F) → (⟨S1000000x4, .i32⟩ : BufTy).Contents (Elt F)) ]

theorem main_eq (c : Dev nD) : main (F := F) c = seq ops := rfl

theorem out_eq (V : Valuation τ sig (Elt F)) : after ops V (main_v24 : DevRef τ sig)
    = (out (F := F) (V (main_arg0 : DevRef τ sig)) (V (main_arg1 : DevRef τ sig)) : (⟨S1000000x4, .i32⟩ : BufTy).Contents (Elt F)) := by
  after_results
  rfl

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., nullary_bufs_sub .., unary_bufs_sub .., binary_bufs_sub .., unary_bufs_sub .., binary_bufs_sub ..,
    binary_bufs_sub .., unary_bufs_sub .., unary_bufs_sub .., binary_bufs_sub .., unary_bufs_sub .., unary_bufs_sub ..,
    unary_bufs_sub .., unary_bufs_sub .., unary_bufs_sub .., nary_bufs_sub .., unary_bufs_sub ..⟩

/-- Every execution of the reference ends, the result being `out` of the arguments, the arguments unchanged, every
    counter zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v24)
          = (out (F := F) (m ((c.tc : Thread nD τ).loc main_arg0)) (m ((c.tc : Thread nD τ).loc main_arg1)) : (⟨S1000000x4, .i32⟩ : BufTy).Contents (Elt F))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨(h c main_v24).trans (out_eq _), (h c main_arg0).trans (arg0_eq _),
      (h c main_arg1).trans (arg1_eq _)⟩, sem_eq_zero_of_no_sems (by decide) r.2⟩)
    (run_seq scopedRefs_eq scopedSems_eq defs main (fun _ => ops) main_eq (fun _ => ops_sub) m ρ)

end Cert.Proof.Ref

end
-- ==== Proof.Value.lean ====
/-
  The kernel's planes, transposed, are the reference's four columns: entry by entry, when the numbers are in range.
-/
module

public import proofs.«01_k».proof.Proof.Reference
public import proofs.«01_k».proof.Proof.Gen.Pre_in_range
public import proofs.«01_k».proof.Defs
public import Idealize.ShloMosaic.Lib.Pipeline.Value
public import Idealize.ShloMosaic.Lib.ReduceAll

@[expose] public section

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Para (flag cell at1 idAt strm)

/-- The only index of a scalar. -/
abbrev at0 : S_.Idx := fun a => a.elim0

/-! ## The reference, entry by entry -/

/-- A yes-or-no made a float and then an integer is 1 or 0. -/
theorem flag_conv (b : Bool) : (FloatOps.fptosi 32 (FloatOps.uitofp .f32 (BitVec.ofBool b) : Ideal .f32) : BitVec 32) = flag b := by
  have clamp (r : ℝ) : Ideal.fptosi 32 (r : EReal)
      = BitVec.ofInt 32 (max (-(2 ^ (32 - 1) : Nat)) (min ((2 ^ (32 - 1) : Nat) - 1) (if 0 ≤ r then ⌊r⌋ else ⌈r⌉))) := rfl
  refine (clamp ((BitVec.ofBool b).toNat : ℝ)).trans ?_
  cases b <;> simp [flag]

theorem at1_eta (n : S1000000.Idx) : at1 (n 0) = n := by
  funext a; match a with | 0 => rfl

theorem every_apply (x : IVec S_ 32) (n : S1000000.Idx) : every x n = x at0 := by
  unfold every broadcastInDim
  exact congrArg x (funext fun a => a.elim0)

theorem starts_zero (ids : IVec S1000000 32) (n : S1000000.Idx) (hn : (n 0).val = 0) : starts ids n = BitVec.ofBool true := by
  unfold starts
  exact concatenate_pair_apply_left (t := S1000000) (s₁ := S1) (s₂ := S999999) 0 _ _ _ n rfl (at1 (N := 1) 0)
    (fun b => by match b with | 0 => exact hn.symm)

theorem starts_succ (ids : IVec S1000000 32) (n : S1000000.Idx) (hn : (n 0).val ≠ 0) :
    starts ids n = BitVec.ofBool (ids n != idAt ids ((n 0).val - 1)) := by
  have hlt : (n 0).val < 1000000 := (n 0).isLt
  unfold starts
  refine (concatenate_pair_apply_right (t := S1000000) (s₁ := S1) (s₂ := S999999) 0 _ _ _ n rfl rfl (at1 (N := 999999) ⟨(n 0).val - 1, by omega⟩)
    (fun b hb => absurd (Subsingleton.elim (α := Fin 1) _ _) hb) (by show (n 0).val - 1 + 1 = (n 0).val; omega)).trans ?_
  unfold idAt
  rw [dif_pos (by omega)]
  have e1 : extractStridedSlice S999999 ![1] ids slices_S1000000_S999999_1 (at1 (N := 999999) ⟨(n 0).val - 1, by omega⟩) = ids n :=
    congrArg ids (funext fun a => by
      match a with
      | 0 => exact Fin.ext (show 1 + ((n 0).val - 1) = (n 0).val by omega))
  have e2 : extractStridedSlice S999999 ![0] ids slices_S1000000_S999999_0 (at1 (N := 999999) ⟨(n 0).val - 1, by omega⟩)
      = ids (at1 ⟨(n 0).val - 1, by omega⟩) :=
    congrArg ids (funext fun a => by
      match a with
      | 0 => exact Fin.ext (show 0 + ((n 0).val - 1) = (n 0).val - 1 by omega))
  show IntOp.cmpi .ne _ _ = _
  rw [e1, e2]
  rfl

theorem col_apply (b : IVec S1000000 1) (i : S1000000x1.Idx) (n : S1000000.Idx) (h : (i 0).val = (n 0).val) :
    col (F := Ideal) b i = FloatOps.uitofp .f32 (b n) := by
  unfold col broadcastInDim
  exact congrArg (fun j => (FloatOps.uitofp .f32 (b j) : Ideal .f32)) (funext fun a => by
    match a with
    | 0 => exact Fin.ext (by simpa using h))

/-- Column `f` of four side by side. -/
theorem beside_apply (b : Fin 4 → IVec S1000000 1) (p : S1000000x4.Idx) :
    beside (F := Ideal) (b 0) (b 1) (b 2) (b 3) p
      = FloatOps.fptosi 32 (FloatOps.uitofp .f32 (b (p 1) (at1 (p 0))) : Ideal .f32) := by
  unfold beside
  refine congrArg (fun v : Ideal .f32 => (FloatOps.fptosi 32 v : BitVec 32)) ?_
  have key : ∀ (k : Fin 4), p 1 = k →
      concatenate S1000000x4 1 [⟨S1000000x1, col (F := Ideal) (b 0)⟩, ⟨S1000000x1, col (b 1)⟩, ⟨S1000000x1, col (b 2)⟩, ⟨S1000000x1, col (b 3)⟩]
        concatenates_S1000000x1_S1000000x1_S1000000x1_S1000000x1_S1000000x4_d1 p = FloatOps.uitofp .f32 (b k (at1 (p 0))) := by
    intro k hk
    let i : S1000000x1.Idx := fun a => match a with | 0 => p 0 | 1 => (0 : Fin 1)
    refine (concatenate_apply_piece (1 : Fin 2) _ _ p k.val (show k.val < [_, _, _, _].length from k.isLt) S1000000x1 (col (F := Ideal) (b k)) ?_ rfl k.val ?_ i ?_ ?_).trans
      (col_apply (b k) i (at1 (p 0)) rfl)
    · fin_cases k <;> rfl
    · fin_cases k <;> rfl
    · intro a ha
      match a with
      | 0 => rfl
      | 1 => exact absurd rfl ha
    · show k.val + 0 = (p 1).val
      rw [hk, Nat.add_zero]
  exact key _ rfl

/-! ## The two agree -/

/-- What the precondition says of one word and of the number of paragraphs. -/
structure InRange (ids : IVec S1000000 32) (a : IVec S_ 32) : Prop where
  nonneg : ∀ n, 0 ≤ (ids n).toInt
  lt : ∀ n, (ids n).toInt < (a at0).toInt
  two : 2 ≤ (a at0).toInt

/-- A word between the first paragraph's number and the last one's, strictly: neither, counted by subtraction. -/
theorem inner_word (v a : BitVec 32) (h0 : 0 ≤ v.toInt) (h1 : v.toInt < a.toInt) (h2 : 2 ≤ a.toInt) :
    IntOp.andi (IntOp.cmpi .sgt v 0#32) (IntOp.cmpi .slt v (a - 1#32)) = BitVec.ofBool (!(v == 0#32) && !(v == a - 1#32))
      ∧ ¬(v = 0#32 ∧ v = a - 1#32) := by
  have ha : (a - 1#32).toInt = a.toInt - 1 := by
    have := a.toInt_lt
    rw [BitVec.toInt_sub]
    simp only [BitVec.toInt_eq_toNat_cond] at *
    simp at *
    rw [Int.bmod_eq_of_le] <;> omega
  have e0 : (v == 0#32) = decide (v.toInt = 0) := by
    rw [Bool.eq_iff_iff]; simp [← BitVec.toInt_inj]
  have e1 : (v == a - 1#32) = decide (v.toInt = a.toInt - 1) := by
    rw [Bool.eq_iff_iff]; simp only [beq_iff_eq, ← BitVec.toInt_inj, ha, decide_eq_true_eq]
  constructor
  · have andi_ofBool (p q : Bool) : IntOp.andi (BitVec.ofBool p) (BitVec.ofBool q) = BitVec.ofBool (p && q) := by
      cases p <;> cases q <;> decide
    simp only [IntOp.cmpi, andi_ofBool]
    rw [e0, e1, BitVec.slt_eq_decide, BitVec.slt_eq_decide, ha]
    congr 1
    rw [Bool.eq_iff_iff]
    simp
    omega
  · rintro ⟨h, h'⟩
    have : v.toInt = 0 := by rw [h]; rfl
    have : v.toInt = a.toInt - 1 := by rw [← ha, ← h']
    omega

/-- The reference's entry: row `n`, column `f`, is what the kernel writes there. -/
theorem out_apply (ids : IVec S1000000 32) (a : IVec S_ 32) (h : InRange ids a) (p : S1000000x4.Idx) :
    out (F := Ideal) ids a p = cell (a at0 - 1#32) (strm ids ((p 0).val + 8)) (strm ids ((p 0).val + 7)) (p 1).val := by
  have hlt : (p 0).val < 1000000 := (p 0).isLt
  have hc : strm ids ((p 0).val + 8) = ids (at1 (p 0)) := by
    unfold strm idAt
    rw [if_neg (by omega), dif_pos (by omega)]
    exact congrArg ids (congrArg at1 (Fin.ext (by show (p 0).val + 8 - 8 = _; omega)))
  have hl : lastP a at0 = a at0 - 1#32 := rfl
  obtain ⟨hw, hx⟩ := inner_word (ids (at1 (p 0))) (a at0) (h.nonneg _) (h.lt _) h.two
  rw [hc]
  refine (beside_apply ![starts ids, cmpi .eq ids (every (constantI S_ 32 0#32)), inner ids a, cmpi .eq ids (every (lastP a))] p).trans ?_
  have hzero : every (constantI S_ 32 0#32) (at1 (p 0)) = 0#32 := every_apply _ _
  have hlast : every (lastP a) (at1 (p 0)) = a at0 - 1#32 := every_apply _ _
  have hq : ∀ (v w : BitVec 32), IntOp.cmpi .eq v w = BitVec.ofBool (v == w) := fun _ _ => rfl
  have key : ∀ f : Fin 4, FloatOps.fptosi 32 (FloatOps.uitofp .f32
      ((![starts ids, cmpi .eq ids (every (constantI S_ 32 0#32)), inner ids a, cmpi .eq ids (every (lastP a))] : Fin 4 → IVec S1000000 1) f (at1 (p 0))) : Ideal .f32)
      = cell (a at0 - 1#32) (ids (at1 (p 0))) (strm ids ((p 0).val + 7)) f.val := ?_
  · exact key (p 1)
  intro f
  match f with
  | 0 =>
    show FloatOps.fptosi 32 (FloatOps.uitofp .f32 (starts ids (at1 (p 0))) : Ideal .f32) = flag _
    by_cases hn : (p 0).val = 0
    · rw [starts_zero ids _ hn, flag_conv]
      have hp : strm ids ((p 0).val + 7) = 4294967295#32 := by unfold strm; rw [if_pos (by omega)]
      have hne : ids (at1 (p 0)) ≠ 4294967295#32 := fun e => by
        have := h.nonneg (at1 (p 0)); rw [e] at this; exact absurd this (by decide)
      rw [hp, bne_iff_ne.2 hne]
    · rw [starts_succ ids _ hn, flag_conv]
      have hp : strm ids ((p 0).val + 7) = idAt ids ((p 0).val - 1) := by
        unfold strm; rw [if_neg (by omega)]; congr 1
      rw [hp]; rfl
  | 1 =>
    show FloatOps.fptosi 32 (FloatOps.uitofp .f32 (IntOp.cmpi .eq (ids (at1 (p 0))) (every (constantI S_ 32 0#32) (at1 (p 0)))) : Ideal .f32) = flag _
    rw [hzero, hq, flag_conv]
  | 2 =>
    show FloatOps.fptosi 32 (FloatOps.uitofp .f32 (IntOp.andi (IntOp.cmpi .sgt (ids (at1 (p 0))) (every (constantI S_ 32 0#32) (at1 (p 0))))
      (IntOp.cmpi .slt (ids (at1 (p 0))) (every (lastP a) (at1 (p 0))))) : Ideal .f32) = (1#32 - flag _) - flag _
    rw [hzero, hlast, hw, flag_conv]
    by_cases c0 : ids (at1 (p 0)) = 0#32 <;> by_cases c1 : ids (at1 (p 0)) = a at0 - 1#32
    · exact absurd ⟨c0, c1⟩ hx
    all_goals
      rw [← beq_iff_eq] at c0 c1
      simp only [Bool.not_eq_true] at c0 c1
      rw [c0, c1]
      decide
  | 3 =>
    show FloatOps.fptosi 32 (FloatOps.uitofp .f32 (IntOp.cmpi .eq (ids (at1 (p 0))) (every (lastP a) (at1 (p 0)))) : Ideal .f32) = flag _
    rw [hlast, hq, flag_conv]

/-- The precondition, read. -/
theorem inRange_of_fn (ids : IVec S1000000 32) (a : IVec S_ 32)
    (h : Cert.Pre_in_range.fn (F := Ideal) ids a = fun _ => 1#1) : InRange ids a := by
  have h0 := congrFun h at0
  have andi_one : ∀ p q : BitVec 1, IntOp.andi p q = 1#1 → p = 1#1 ∧ q = 1#1 := by decide
  unfold Cert.Pre_in_range.fn at h0
  obtain ⟨hr, h2⟩ := andi_one _ _ h0
  haveI : Subsingleton Cert.Pre_in_range.S_.Idx := ⟨fun x y => funext fun b => b.elim0⟩
  have hall := fun n => andi_one _ _ (Host.reduce_andi_all _ _ _ _ _ hr n)
  refine ⟨fun n => ?_, fun n => ?_, ?_⟩
  · have := IntOp.cmpi_sge.1 (hall n).1
    exact this
  · have := IntOp.cmpi_slt.1 (hall n).2
    refine this.trans_eq (congrArg (fun j => (a j).toInt) (funext fun b => b.elim0))
  · exact IntOp.cmpi_sge.1 h2

/-- The kernel's result is the reference's, its arguments being the reference's and in range. -/
theorem res_eq (m : (ℓ : Loc Cert.KernelIdeal.nD Cert.KernelIdeal.τ Cert.KernelIdeal.sig) → Buf (Elt Ideal) ℓ) (d : Dev Cert.KernelIdeal.nD)
    (h : InRange (m (Para.iLoc d)) (m (Para.aLoc d))) :
    (out (F := Ideal) (m (Para.iLoc d)) (m (Para.aLoc d)) : S1000000x4.Idx → BitVec 32) = Para.RES m d := by
  funext p
  rw [out_apply _ _ h p]
  rfl

end Cert.Proof.Ref
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Value
public import Idealize.ShloMosaic.Adequacy
public import Idealize.ShloMosaic.Init

@[expose] public section

noncomputable section

namespace Cert.Proof

open Idealize.ShloMosaic Idealize.SL.Sem

/-- The kernel at machine floats: it ends, its arguments unchanged, every counter zero. -/
theorem frame_p : Cert.quiescent_Kernel := fun m ρ _ =>
  (θ_run Cert.Kernel.defs _ _).mono (fun _ h => ⟨fun c => ⟨(h.1 c).1, (h.1 c).2.1⟩, h.2⟩) (Para.run_main (F := Bits) m ρ)

/-- The same at exact floats. -/
theorem frame_pi : Cert.quiescent_KernelIdeal := fun m ρ _ =>
  (θ_run Cert.KernelIdeal.defs _ _).mono (fun _ h => ⟨fun c => ⟨(h.1 c).1, (h.1 c).2.1⟩, h.2⟩) (Para.run_main (F := Ideal) m ρ)

/-- The reference at exact floats. -/
theorem frame_ri : Cert.quiescent_ReferenceIdeal := fun m ρ _ =>
  (θ_run Cert.ReferenceIdeal.defs _ _).mono (fun _ h => ⟨fun c => (h.1 c).2, h.2⟩) (Ref.run_main (F := Ideal) m ρ)

/-- The kernel's result is the reference's: both are the reference's four columns. -/
theorem algebraic : Cert.algebraic_KernelIdeal_ReferenceIdeal_pre_in_range := by
  intro m g m' g' hpre hagree
  refine ⟨fun c => Para.RES m c, (θ_run Cert.KernelIdeal.defs _ _).mono
    (fun _ h c => ⟨(h.1 c).2.2, (h.1 c).1, (h.1 c).2.1⟩) (Para.run_main (F := Ideal) m g), ?_⟩
  refine (θ_run Cert.ReferenceIdeal.defs _ _).mono (fun _ h c => ⟨(h.1 c).1.trans ?_, (h.1 c).2⟩) (Ref.run_main (F := Ideal) m' g')
  refine Eq.trans ?_ (Ref.res_eq m c (Ref.inRange_of_fn _ _ (hpre c)))
  rw [(hagree c).1, (hagree c).2]

theorem claim : Cert.Claim := ⟨Cert.Kernel.Gen.facts, Cert.KernelIdeal.Gen.facts, Cert.ReferenceIdeal.Gen.facts, Cert.Pre_in_range.Gen.facts,
  frame_p, frame_pi, fun m ρ _ => frame_pi m ρ trivial, frame_ri, fun m ρ _ => frame_ri m ρ trivial, trivial, algebraic⟩

end Cert.Proof

end
